-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 256]⟩ ⟨2, ![256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v51) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S64x256 : Shape := ⟨2, ![64, 256]⟩
abbrev S256x256 : Shape := ⟨2, ![256, 256]⟩
abbrev S256x2 : Shape := ⟨2, ![256, 2]⟩
abbrev S3x64x256 : Shape := ⟨3, ![3, 64, 256]⟩
abbrev S3 : Shape := ⟨1, ![3]⟩
abbrev S_ : Shape := ⟨0, ![]⟩
abbrev S1x128x256 : Shape := ⟨3, ![1, 128, 256]⟩
abbrev S128x256 : Shape := ⟨2, ![128, 256]⟩
abbrev S64x128 : Shape := ⟨2, ![64, 128]⟩
abbrev S64x1 : Shape := ⟨2, ![64, 1]⟩
abbrev S1 : Shape := ⟨1, ![1]⟩
abbrev S1x64x256 : Shape := ⟨3, ![1, 64, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S2x128x256, .f32⟩
  | .hbm, ⟨4, _⟩ => ⟨S64x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S64x256, .f32⟩
  | .local _ .vmem, ⟨4, _⟩ => ⟨S256x256, .f32⟩
  | .local _ .vmem, ⟨5, _⟩ => ⟨S256x2, .f32⟩
  | .local _ .vmem, ⟨6, _⟩ => ⟨S3x64x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c2_i32_39
  let c4_i32_40 : BitVec 32 := 4#32
  let c0_i32_41 : BitVec 32 := 0#32
  let v75 : BitVec 1 := Scalar.cmpi .eq c4_i32_40 c0_i32_41
  let c1_i32_42 : BitVec 32 := 1#32
  let v76 : BitVec 32 := Scalar.select v75 c1_i32_42 c4_i32_40
  let v77 : BitVec 32 := Scalar.remsi v74 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let c64_i32 : BitVec 32 := 64#32
  let v85 : BitVec 32 := Scalar.muli v84 c64_i32
  let v86 : Index := Scalar.indexCast v85
  let c0_46 : Index := 0#32
  ![v86.toNat, 0]
def k0_off2 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c2_i32_39
  let c4_i32_40 : BitVec 32 := 4#32
  let c0_i32_41 : BitVec 32 := 0#32
  let v75 : BitVec 1 := Scalar.cmpi .eq c4_i32_40 c0_i32_41
  let c1_i32_42 : BitVec 32 := 1#32
  let v76 : BitVec 32 := Scalar.select v75 c1_i32_42 c4_i32_40
  let v77 : BitVec 32 := Scalar.remsi v74 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let c64_i32 : BitVec 32 := 64#32
  let v85 : BitVec 32 := Scalar.muli v84 c64_i32
  let v89 : Index := Scalar.indexCast v85
  let c0_47 : Index := 0#32
  ![v89.toNat, 0]
def k0_off3 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c2_i32_39
  let c4_i32_40 : BitVec 32 := 4#32
  let c0_i32_41 : BitVec 32 := 0#32
  let v75 : BitVec 1 := Scalar.cmpi .eq c4_i32_40 c0_i32_41
  let c1_i32_42 : BitVec 32 := 1#32
  let v76 : BitVec 32 := Scalar.select v75 c1_i32_42 c4_i32_40
  let v77 : BitVec 32 := Scalar.remsi v74 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let c64_i32 : BitVec 32 := 64#32
  let v85 : BitVec 32 := Scalar.muli v84 c64_i32
  let v91 : Index := Scalar.indexCast v85
  let c1_48 : Index := 1#32
  ![v91.toNat, 1]
def k0_off4 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c2_i32_39
  let c4_i32_40 : BitVec 32 := 4#32
  let c0_i32_41 : BitVec 32 := 0#32
  let v75 : BitVec 1 := Scalar.cmpi .eq c4_i32_40 c0_i32_41
  let c1_i32_42 : BitVec 32 := 1#32
  let v76 : BitVec 32 := Scalar.select v75 c1_i32_42 c4_i32_40
  let v77 : BitVec 32 := Scalar.remsi v74 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let c64_i32 : BitVec 32 := 64#32
  let v85 : BitVec 32 := Scalar.muli v84 c64_i32
  let v100 : Index := Scalar.indexCast v85
  let c0_51 : Index := 0#32
  ![v100.toNat, 0]
def k0_off5 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c2_i32_39
  let c4_i32_40 : BitVec 32 := 4#32
  let c0_i32_41 : BitVec 32 := 0#32
  let v75 : BitVec 1 := Scalar.cmpi .eq c4_i32_40 c0_i32_41
  let c1_i32_42 : BitVec 32 := 1#32
  let v76 : BitVec 32 := Scalar.select v75 c1_i32_42 c4_i32_40
  let v77 : BitVec 32 := Scalar.remsi v74 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let c64_i32 : BitVec 32 := 64#32
  let v85 : BitVec 32 := Scalar.muli v84 c64_i32
  let c0_i32_59 : BitVec 32 := 0#32
  ![v85.toNat, 0]
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_39 : BitVec 32 := 2#32
  let v74 : BitVec 32 := Scalar.addi v2 c2_i32_39
  let c4_i32_40 : BitVec 32 := 4#32
  let c0_i32_41 : BitVec 32 := 0#32
  let v75 : BitVec 1 := Scalar.cmpi .eq c4_i32_40 c0_i32_41
  let c1_i32_42 : BitVec 32 := 1#32
  let v76 : BitVec 32 := Scalar.select v75 c1_i32_42 c4_i32_40
  let v77 : BitVec 32 := Scalar.remsi v74 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let c1_i32_55 : BitVec 32 := 1#32
  let v104 : BitVec 32 := Scalar.muli v84 c1_i32_55
  let v105 : BitVec 32 := Scalar.addi c0_i32_56 v104
  v105.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v113 : BitVec 32 := Scalar.addi v2 c1_i32_60
  let c4_i32_61 : BitVec 32 := 4#32
  let c0_i32_62 : BitVec 32 := 0#32
  let v114 : BitVec 1 := Scalar.cmpi .eq c4_i32_61 c0_i32_62
  let c1_i32_63 : BitVec 32 := 1#32
  let v115 : BitVec 32 := Scalar.select v114 c1_i32_63 c4_i32_61
  let v116 : BitVec 32 := Scalar.remsi v113 v115
  let c0_i32_65 : BitVec 32 := 0#32
  let v118 : BitVec 1 := Scalar.cmpi .slt v116 c0_i32_65
  let c0_i32_66 : BitVec 32 := 0#32
  let v119 : BitVec 1 := Scalar.cmpi .slt v115 c0_i32_66
  let v120 : BitVec 1 := Scalar.xori v118 v119
  let c0_i32_64 : BitVec 32 := 0#32
  let v117 : BitVec 1 := Scalar.cmpi .ne v116 c0_i32_64
  let v121 : BitVec 1 := Scalar.andi v120 v117
  let v122 : BitVec 32 := Scalar.addi v116 v115
  let v123 : BitVec 32 := Scalar.select v121 v122 v116
  let c1_i32_77 : BitVec 32 := 1#32
  let v143 : BitVec 32 := Scalar.muli v123 c1_i32_77
  let v144 : BitVec 32 := Scalar.addi c0_i32_78 v143
  v144.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_82 : BitVec 32 := 3#32
  let v152 : BitVec 32 := Scalar.addi v2 c3_i32_82
  let c4_i32_83 : BitVec 32 := 4#32
  let c0_i32_84 : BitVec 32 := 0#32
  let v153 : BitVec 1 := Scalar.cmpi .eq c4_i32_83 c0_i32_84
  let c1_i32_85 : BitVec 32 := 1#32
  let v154 : BitVec 32 := Scalar.select v153 c1_i32_85 c4_i32_83
  let v155 : BitVec 32 := Scalar.remsi v152 v154
  let c0_i32_87 : BitVec 32 := 0#32
  let v157 : BitVec 1 := Scalar.cmpi .slt v155 c0_i32_87
  let c0_i32_88 : BitVec 32 := 0#32
  let v158 : BitVec 1 := Scalar.cmpi .slt v154 c0_i32_88
  let v159 : BitVec 1 := Scalar.xori v157 v158
  let c0_i32_86 : BitVec 32 := 0#32
  let v156 : BitVec 1 := Scalar.cmpi .ne v155 c0_i32_86
  let v160 : BitVec 1 := Scalar.andi v159 v156
  let v161 : BitVec 32 := Scalar.addi v155 v154
  let v162 : BitVec 32 := Scalar.select v160 v161 v155
  let c1_i32_99 : BitVec 32 := 1#32
  let v182 : BitVec 32 := Scalar.muli v162 c1_i32_99
  let v183 : BitVec 32 := Scalar.addi c0_i32_100 v182
  v183.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_104 : BitVec 32 := 64#32
  let v191 : BitVec 32 := Scalar.muli v2 c64_i32_104
  let v192 : Index := Scalar.indexCast v191
  let c0_105 : Index := 0#32
  ![v192.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_104 : BitVec 32 := 64#32
  let v191 : BitVec 32 := Scalar.muli v2 c64_i32_104
  let v195 : Index := Scalar.indexCast v191
  let c0_106 : Index := 0#32
  ![v195.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_104 : BitVec 32 := 64#32
  let v191 : BitVec 32 := Scalar.muli v2 c64_i32_104
  let v197 : Index := Scalar.indexCast v191
  let c1_107 : Index := 1#32
  ![v197.toNat, 1]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S8 : Shape := ⟨1, ![8]⟩
abbrev S1x8 : Shape := ⟨2, ![1, 8]⟩
abbrev S256x8 : Shape := ⟨2, ![256, 8]⟩
abbrev S_ : Shape := ⟨0, ![]⟩
abbrev S256x256 : Shape := ⟨2, ![256, 256]⟩
abbrev S1x128x256 : Shape := ⟨3, ![1, 128, 256]⟩
abbrev S128x256 : Shape := ⟨2, ![128, 256]⟩

abbrev nBuf : Space → Nat
  | .hbm => 68
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S8x128x256, .f32⟩
  | .hbm, ⟨4, _⟩ => ⟨S8, .i32⟩
  | .hbm, ⟨5, _⟩ => ⟨S1x8, .i32⟩
  | .hbm, ⟨6, _⟩ => ⟨S256x8, .i32⟩
  | .hbm, ⟨7, _⟩ => ⟨S256x8, .i32⟩
  | .hbm, ⟨8, _⟩ => ⟨S256x8, .i1⟩
  | .hbm, ⟨9, _⟩ => ⟨S256x8, .i32⟩
  | .hbm, ⟨10, _⟩ => ⟨S_, .i32⟩
  | .hbm, ⟨11, _⟩ => ⟨S_, .i32⟩
  | .hbm, ⟨12, _⟩ => ⟨S256x8, .i32⟩
  | .hbm, ⟨13, _⟩ => ⟨S256x8, .i32⟩
  | .hbm, ⟨14, _⟩ => ⟨S_, .i32⟩
  | .hbm, ⟨15, _⟩ => ⟨S256x8, .i32⟩
  | .hbm, ⟨16, _⟩ => ⟨S256x8, .i1⟩
  | .hbm, ⟨17, _⟩ => ⟨S256x8, .i1⟩
  | .hbm, ⟨18, _⟩ => ⟨S_, .f32⟩
  | .hbm, ⟨19, _⟩ => ⟨S256x256, .f32⟩
  | .hbm, ⟨20, _⟩ => ⟨S256x1, .i1⟩
  | .hbm, ⟨21, _⟩ => ⟨S1x128x256, .f32⟩
  | .hbm, ⟨22, _⟩ => ⟨S128x256, .f32⟩
  | .hbm, ⟨23, _⟩ => ⟨S256x256, .f32⟩
  | .hbm, ⟨24, _⟩ => ⟨S256x256, .i1⟩
  | .hbm, ⟨25, _⟩ => ⟨S256x256, .f32⟩
  | .hbm, ⟨26, _⟩ => ⟨S256x1, .i1⟩
  | .hbm, ⟨27, _⟩ => ⟨S1x128x256, .f32⟩
  | .hbm, ⟨28, _⟩ => ⟨S128x256, .f32⟩
  | .hbm, ⟨29, _⟩ => ⟨S256x256, .f32⟩
  | .hbm, ⟨30, _⟩ => ⟨S256x256, .i1⟩
  | .hbm, ⟨31, _⟩ => ⟨S256x256, .f32⟩
  | .hbm, ⟨32, _⟩ => ⟨S256x1, .i1⟩
  | .hbm, ⟨33, _⟩ => ⟨S1x128x256, .f32⟩
  | .hbm, ⟨34, _⟩ => ⟨S128x256, .f32⟩
  | .hbm, ⟨35, _⟩ => ⟨S256x256, .f32⟩
  | .hbm, ⟨36, _⟩ => ⟨S256x256, .i1⟩
  | .hbm, ⟨37, _⟩ => ⟨S256x256, .f32⟩
  | .hbm, ⟨38, _⟩ => ⟨S256x1, .i1⟩
  | .hbm, ⟨39, _⟩ => ⟨S1x128x256, .f32⟩
  | .hbm, ⟨40, _⟩ => ⟨S128x256, .f32⟩
  | .hbm, ⟨41, _⟩ => ⟨S256x256, .f32⟩
  | .hbm, ⟨42, _⟩ => ⟨S256x256, .i1⟩
  | .hbm, ⟨43, _⟩ => ⟨S256x256, .f32⟩
  | .hbm, ⟨44, _⟩ => ⟨S256x1, .i1⟩
  | .hbm, ⟨45, _⟩ => ⟨S1x128x256, .f32⟩
  | .hbm, ⟨46, _⟩ => ⟨S128x256, .f32⟩
  | .hbm, ⟨47, _⟩ => ⟨S256x256, .f32⟩
  | .hbm, ⟨48, _⟩ => ⟨S256x256, .i1⟩
  | .hbm, ⟨49, _⟩ => ⟨S256x256, .f32⟩
  | .hbm, ⟨50, _⟩ => ⟨S256x1, .i1⟩
  | .hbm, ⟨51, _⟩ => ⟨S1x128x256, .f32⟩
  | .hbm, ⟨52, _⟩ => ⟨S128x256, .f32⟩
  | .hbm, ⟨53, _⟩ => ⟨S256x256, .f32⟩
  | .hbm, ⟨54, _⟩ => ⟨S256x256, .i1⟩
  | .hbm, ⟨55, _⟩ => ⟨S256x256, .f32⟩
  | .hbm, ⟨56, _⟩ => ⟨S256x1, .i1⟩
  | .hbm, ⟨57, _⟩ => ⟨S1x128x256, .f32⟩
  | .hbm, ⟨58, _⟩ => ⟨S128x256, .f32⟩
  | .hbm, ⟨59, _⟩ => ⟨S256x256, .f32⟩
  | .hbm, ⟨60, _⟩ => ⟨S256x256, .i1⟩
  | .hbm, ⟨61, _⟩ => ⟨S256x256, .f32⟩
  | .hbm, ⟨62, _⟩ => ⟨S256x1, .i1⟩
  | .hbm, ⟨63, _⟩ => ⟨S1x128x256, .f32⟩
  | .hbm, ⟨64, _⟩ => ⟨S128x256, .f32⟩
  | .hbm, ⟨65, _⟩ => ⟨S256x256, .f32⟩
  | .hbm, ⟨66, _⟩ => ⟨S256x256, .i1⟩
  | .hbm, ⟨67, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call2_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call3_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call4_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call5_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call6_v0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call7_v0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call8_v0 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Proof.Mesh.lean ====
/-
# The four devices, their buffers and semaphores

Device `c` of the ring of four sends, for each `j < 3`, one block of 64 rows to device `c + j + 1` (mod 4), where it lands in
slot `j` of that device's receive buffer. This module names the devices so reached, the pieces of the scratch buffers that
travel, the semaphore cells that time the exchange, and the values each device computes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own, and the exchange's, whose duties are named by `Fin 3`. -/
abbrev UX : Type := URounds (GSem nD τ sig) (Fin 3)
abbrev UU : Type := UR sig nD τ × UX

local notation "𝕄" => MT nD τ sig Unit (Elt F) ℕ UU ℕ

/-- The places of the two in the ghost state. -/
abbrev EP : Emb (UR sig nD τ) (MT nD τ sig Unit (Elt F) ℕ UU ℕ) := embL
abbrev EX : Emb UX (MT nD τ sig Unit (Elt F) ℕ UU ℕ) := embR

/-! ## Devices -/

set_option backward.proofsInPublic true in
/-- The device `j + 1` places after `c` on the ring. -/
def hop (j : Fin 3) (c : Dev nD) : Dev nD := ⟨(c.val + j.val + 1) % 4, Nat.mod_lt _ (by decide)⟩

/-- Going `j + 1` places and then `4 - (j + 1)` returns to the start. -/
theorem hop_rev_hop (j : Fin 3) (c : Dev nD) : hop j.rev (hop j c) = c := by revert j c; decide
/-- The same, the other way round. -/
theorem hop_hop_rev (j : Fin 3) (c : Dev nD) : hop j (hop j.rev c) = c := by revert j c; decide
/-- A device has `c` at distance `j + 1` when it is at the opposite distance from `c`. -/
theorem hop_eq_iff (j : Fin 3) (d c : Dev nD) : hop j d = c ↔ d = hop j.rev c := by revert j d c; decide

/-- Going `j + 1` places, as a permutation of the devices. -/
def hopEquiv (j : Fin 3) : Dev nD ≃ Dev nD := ⟨hop j, hop j.rev, hop_rev_hop j, hop_hop_rev j⟩

/-- The devices that the kernel names: the three signals go to `hop 0 c`, `hop 1 c`, `hop 2 c`; the three copies, in the
    kernel's order, to `hop 1 c`, `hop 0 c`, `hop 2 c`. -/
theorem dev1_eq (c : Dev nD) : (⟨k0_dev1 c, k0_dev1_lt c⟩ : Dev nD) = hop 0 c := by revert c; decide +kernel
theorem dev2_eq (c : Dev nD) : (⟨k0_dev2 c, k0_dev2_lt c⟩ : Dev nD) = hop 1 c := by revert c; decide +kernel
theorem dev3_eq (c : Dev nD) : (⟨k0_dev3 c, k0_dev3_lt c⟩ : Dev nD) = hop 2 c := by revert c; decide +kernel
theorem dev4_eq (c : Dev nD) : (⟨k0_dev4 c, k0_dev4_lt c⟩ : Dev nD) = hop 1 c := by revert c; decide +kernel
theorem dev5_eq (c : Dev nD) : (⟨k0_dev5 c, k0_dev5_lt c⟩ : Dev nD) = hop 0 c := by revert c; decide +kernel
theorem dev6_eq (c : Dev nD) : (⟨k0_dev6 c, k0_dev6_lt c⟩ : Dev nD) = hop 2 c := by revert c; decide +kernel

/-- The kernel's row offsets: the block for the device `d` places on starts at row 64 times that device. -/
theorem off1_eq (c : Dev nD) (j : Fin 3) : k0_off1 c (BitVec.ofNat 32 (1 + j.val)) = ![64 * (hop j c).val, 0] := by revert c j; decide +kernel
theorem off2_eq (c : Dev nD) (j : Fin 3) : k0_off2 c (BitVec.ofNat 32 (1 + j.val)) = ![64 * (hop j c).val, 0] := by revert c j; decide +kernel
theorem off3_eq (c : Dev nD) (j : Fin 3) : k0_off3 c (BitVec.ofNat 32 (1 + j.val)) = ![64 * (hop j c).val, 1] := by revert c j; decide +kernel
theorem off4_eq (c : Dev nD) (j : Fin 3) : k0_off4 c (BitVec.ofNat 32 (1 + j.val)) = ![64 * (hop j c).val, 0] := by revert c j; decide +kernel
theorem off5_eq (c : Dev nD) (j : Fin 3) : k0_off5 c (BitVec.ofNat 32 (1 + j.val)) = ![64 * (hop j c).val, 0] := by revert c j; decide +kernel

/-! ## Buffers and their pieces -/

/-- The staged tokens, route indices, weights and result; the outgoing buffer, the mask, the receive buffer. -/
abbrev xM : Memref sig .tc .vmem S256x128 .f32 := Memref.whole cc0_stg0_0
abbrev rM : Memref sig .tc .vmem S256x1 .i32 := Memref.whole cc0_stg1_0
abbrev wM : Memref sig .tc .vmem S2x128x256 .f32 := Memref.whole cc0_stg2_0
abbrev oM : Memref sig .tc .vmem S64x256 .f32 := Memref.whole cc0_stg3_0
abbrev pM : Memref sig .tc .vmem S256x256 .f32 := Memref.whole cc0_scratch0
abbrev kM : Memref sig .tc .vmem S256x2 .f32 := Memref.whole cc0_scratch1
abbrev vM : Memref sig .tc .vmem S3x64x256 .f32 := Memref.whole cc0_scratch2

/-- The pieces lie inside their buffers. -/
theorem xRect_inb (b : Dev nD) : ∀ a, (![64 * b.val, 0] : Fin 2 → ℕ) a + S64x128.size a ≤ S256x128.size a := by revert b; decide
theorem aRect_inb (b : Dev nD) (e : Fin 2) : ∀ a, (![64 * b.val, e.val] : Fin 2 → ℕ) a + S64x1.size a ≤ S256x2.size a := by revert b e; decide
theorem pRect_inb (b : Dev nD) : ∀ a, (![64 * b.val, 0] : Fin 2 → ℕ) a + S64x256.size a ≤ S256x256.size a := by revert b; decide
theorem vRect_inb (j : Fin 3) : ∀ a, (![j.val, 0, 0] : Fin 3 → ℕ) a + S1x64x256.size a ≤ S3x64x256.size a := by revert j; decide
theorem wRect_inb (e : Fin 2) : ∀ a, (![e.val, 0, 0] : Fin 3 → ℕ) a + S1x128x256.size a ≤ S2x128x256.size a := by revert e; decide

/-- The 64 rows of block `b`: of `x`; of column `e` of the mask; of the outgoing buffer. Slot `j` of the receive buffer.
    Expert `e` of the device's two. -/
abbrev xRect (b : Dev nD) : Rect S256x128 := Rect.unit (s := S256x128) ![64 * b.val, 0] S64x128.size (xRect_inb b)
abbrev aRect (b : Dev nD) (e : Fin 2) : Rect S256x2 := Rect.unit (s := S256x2) ![64 * b.val, e.val] S64x1.size (aRect_inb b e)
abbrev pRect (b : Dev nD) : Rect S256x256 := Rect.unit (s := S256x256) ![64 * b.val, 0] S64x256.size (pRect_inb b)
abbrev vRect (j : Fin 3) : Rect S3x64x256 := Rect.unit (s := S3x64x256) ![j.val, 0, 0] S1x64x256.size (vRect_inb j)
abbrev wRect (e : Fin 2) : Rect S2x128x256 := Rect.unit (s := S2x128x256) ![e.val, 0, 0] S1x128x256.size (wRect_inb e)

/-- The outgoing block for device `b`, and the receive slot `j`, as the copies name them. -/
abbrev partM (b : Dev nD) : Memref sig .tc .vmem S64x256 .f32 := pM.slice (pRect b) (fun _ => rfl)
abbrev slotM (j : Fin 3) : Memref sig .tc .vmem S64x256 .f32 := (vM.slice (vRect j) (fun _ => rfl)).squeeze S64x256 squeezes_S1x64x256_S64x256

/-- An outgoing block and a receive slot cover their pieces of the buffers. -/
theorem partM_set (b : Dev nD) : (partM b).view.set = (pRect b).set := View.set_slice_whole _ _
theorem slotM_set (j : Fin 3) : (slotM j).view.set = (vRect j).set :=
  (View.set_reshape (vM.slice (vRect j) (fun _ => rfl)).view _).trans (View.set_slice_whole _ _)

/-- Block `b` of the outgoing buffer of device `c`, at any contents. -/
def anyPart (c b : Dev nD) : sProp 𝕄 :=
  iprop(∃ f, (partM b).view.loc (c : Thread nD τ) ↦[(partM b).view.set]{fullShare} f)
/-- Slot `j` of the receive buffer of device `c`, at any contents. -/
def anySlot (c : Dev nD) (j : Fin 3) : sProp 𝕄 :=
  iprop(∃ f, (slotM j).view.loc (c : Thread nD τ) ↦[(slotM j).view.set]{fullShare} f)

omit [FloatOps F] in
/-- A block or a slot at any contents may be a payload. -/
instance anyPart_storable (c b : Dev nD) : BI.Storable (upEmb : UEmb _ 𝕄) (anyPart (F := F) c b) := by unfold anyPart; infer_instance
omit [FloatOps F] in
instance anySlot_storable (c : Dev nD) (j : Fin 3) : BI.Storable (upEmb : UEmb _ 𝕄) (anySlot (F := F) c j) := by unfold anySlot; infer_instance

/-- Different blocks of the outgoing buffer do not meet, and the four are all of it. -/
theorem pRect_disjoint (b b' : Dev nD) (h : b ≠ b') : Disjoint (pRect b).set (pRect b').set :=
  Ring.lead_disjoint (s := S256x256) (0 : Fin 2) 64 (fun b : Fin 4 => ![64 * b.val, 0]) S64x256.size pRect_inb (fun _ => rfl) rfl b b' h
theorem pRect_cover : Finset.univ.biUnion (fun b : Dev nD => (pRect b).set) = Finset.univ :=
  Ring.lead_cover (s := S256x256) (0 : Fin 2) 64 (fun b : Fin 4 => ![64 * b.val, 0]) S64x256.size pRect_inb (fun _ => rfl)
    (by decide) rfl (by decide) rfl
/-- Different slots of the receive buffer do not meet, and the three are all of it. -/
theorem vRect_disjoint (j j' : Fin 3) (h : j ≠ j') : Disjoint (vRect j).set (vRect j').set :=
  Ring.lead_disjoint (s := S3x64x256) (0 : Fin 3) 1 (fun j : Fin 3 => ![j.val, 0, 0]) S1x64x256.size vRect_inb (fun j => (Nat.one_mul _).symm) rfl j j' h
theorem vRect_cover : Finset.univ.biUnion (fun j : Fin 3 => (vRect j).set) = Finset.univ :=
  Ring.lead_cover (s := S3x64x256) (0 : Fin 3) 1 (fun j : Fin 3 => ![j.val, 0, 0]) S1x64x256.size vRect_inb (fun j => (Nat.one_mul _).symm)
    (by decide) rfl (by decide) rfl

omit [FloatOps F] in
/-- A block or a slot at any contents, as a piece of its buffer. -/
theorem anyPart_eq (c b : Dev nD) :
    (anyPart c b : sProp 𝕄) = iprop(∃ f : Buf (Elt F) ((c : Thread nD τ).loc cc0_scratch0), ((c : Thread nD τ).loc cc0_scratch0) ↦[(pRect b).set]{fullShare} f) := by
  unfold anyPart; rw [partM_set]
omit [FloatOps F] in
theorem anySlot_eq (c : Dev nD) (j : Fin 3) :
    (anySlot c j : sProp 𝕄) = iprop(∃ f : Buf (Elt F) ((c : Thread nD τ).loc cc0_scratch2), ((c : Thread nD τ).loc cc0_scratch2) ↦[(vRect j).set]{fullShare} f) := by
  unfold anySlot; rw [slotM_set]

omit [FloatOps F] in
/-- A block at some contents is a block at any contents. -/
theorem anyPart_intro (c : Dev nD) (b : Dev nD) (f : Buf (Elt F) ((c : Thread nD τ).loc cc0_scratch0)) :
    (((c : Thread nD τ).loc cc0_scratch0) ↦[(pRect b).set]{fullShare} f : sProp 𝕄) ⊢ anyPart c b := by
  rw [anyPart_eq]; iintro H; iexists f; iexact H

omit [FloatOps F] in
/-- The outgoing buffer is its four blocks, and its four blocks are the buffer. -/
theorem parts_split (c : Dev nD) :
    (iprop(∃ f : Buf (Elt F) ((c : Thread nD τ).loc cc0_scratch0), ((c : Thread nD τ).loc cc0_scratch0) ↦{fullShare} f) : sProp 𝕄)
      ⊢ bigSep Finset.univ fun b : Dev nD => anyPart c b := by
  iintro ⟨%f, H⟩
  irevert H
  rw [Ring.pointsTo_blocks (ℓ := (c : Thread nD τ).loc cc0_scratch0) (fun b : Dev nD => (pRect b).set) pRect_disjoint pRect_cover f]
  iintro H
  have h : (bigSep Finset.univ fun b : Dev nD => (((c : Thread nD τ).loc cc0_scratch0) ↦[(pRect b).set]{fullShare} f : sProp 𝕄))
      ⊢ bigSep Finset.univ fun b : Dev nD => anyPart c b := bigSep_mono fun b _ => anyPart_intro c b f
  iapply h; iexact H
omit [FloatOps F] in
/-- The four blocks make up the outgoing buffer again. -/
theorem parts_join (c : Dev nD) (f₀ : Buf (Elt F) ((c : Thread nD τ).loc cc0_scratch0)) :
    (bigSep Finset.univ fun b : Dev nD => anyPart (F := F) c b)
      ⊢ (iprop(∃ f : Buf (Elt F) ((c : Thread nD τ).loc cc0_scratch0), ((c : Thread nD τ).loc cc0_scratch0) ↦{fullShare} f) : sProp 𝕄) := by
  simp only [anyPart_eq]
  exact Ring.pointsTo_blocks_join_exists (ℓ := (c : Thread nD τ).loc cc0_scratch0) (fun b : Dev nD => (pRect b).set) pRect_disjoint pRect_cover f₀

omit [FloatOps F] in
/-- A slot at some contents is a slot at any contents. -/
theorem anySlot_intro (c : Dev nD) (j : Fin 3) (f : Buf (Elt F) ((c : Thread nD τ).loc cc0_scratch2)) :
    (((c : Thread nD τ).loc cc0_scratch2) ↦[(vRect j).set]{fullShare} f : sProp 𝕄) ⊢ anySlot c j := by
  rw [anySlot_eq]; iintro H; iexists f; iexact H

omit [FloatOps F] in
/-- Likewise the receive buffer and its three slots. -/
theorem slots_split (c : Dev nD) :
    (iprop(∃ f : Buf (Elt F) ((c : Thread nD τ).loc cc0_scratch2), ((c : Thread nD τ).loc cc0_scratch2) ↦{fullShare} f) : sProp 𝕄)
      ⊢ bigSep Finset.univ fun j : Fin 3 => anySlot c j := by
  iintro ⟨%f, H⟩
  irevert H
  rw [Ring.pointsTo_blocks (ℓ := (c : Thread nD τ).loc cc0_scratch2) (fun j : Fin 3 => (vRect j).set) vRect_disjoint vRect_cover f]
  iintro H
  have h : (bigSep Finset.univ fun j : Fin 3 => (((c : Thread nD τ).loc cc0_scratch2) ↦[(vRect j).set]{fullShare} f : sProp 𝕄))
      ⊢ bigSep Finset.univ fun j : Fin 3 => anySlot c j := bigSep_mono fun j _ => anySlot_intro c j f
  iapply h; iexact H
omit [FloatOps F] in
/-- The three slots make up the receive buffer again. -/
theorem slots_join (c : Dev nD) (f₀ : Buf (Elt F) ((c : Thread nD τ).loc cc0_scratch2)) :
    (bigSep Finset.univ fun j : Fin 3 => anySlot (F := F) c j)
      ⊢ (iprop(∃ f : Buf (Elt F) ((c : Thread nD τ).loc cc0_scratch2), ((c : Thread nD τ).loc cc0_scratch2) ↦{fullShare} f) : sProp 𝕄) := by
  simp only [anySlot_eq]
  exact Ring.pointsTo_blocks_join_exists (ℓ := (c : Thread nD τ).loc cc0_scratch2) (fun j : Fin 3 => (vRect j).set) vRect_disjoint vRect_cover f₀

/-! ## Values -/

section Values

variable (m : (ℓ : Loc nD τ sig) → Buf (Elt F) ℓ) (ρ : Dev nD → PrngReg)

/-- What device `c` is launched with: the tokens, the route indices, its two experts' weights. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- The position of device `c` on the mesh axis, as the kernel computes it. -/
abbrev posW (c : Dev nD) : BitVec 32 := Scalar.remsi (Scalar.divsi (Dev.word c) 1#32) 4#32

/-- The mask device `c` computes: per token, one column for each of its two experts. -/
def maskAt (c : Dev nD) : FVec F S256x2 .f32 := k0_pay1 (posW c) (rstg m ρ c)

/-- The rows of block `b` that device `c` reads of its tokens and of its mask's column `e`; the weights of its expert `e`. -/
def xRows (c b : Dev nD) : Vec F S64x128 .f32 := (xM : Memref sig .tc .vmem S256x128 .f32).view.readAt (Elt F) (xRect b).toLoadRect (xstg m ρ c)
def aRows (c b : Dev nD) (e : Fin 2) : Vec F S64x1 .f32 := (kM : Memref sig .tc .vmem S256x2 .f32).view.readAt (Elt F) (aRect b e).toLoadRect (maskAt m ρ c)
def wExp (c : Dev nD) (e : Fin 2) : Vec F S1x128x256 .f32 := (wM : Memref sig .tc .vmem S2x128x256 .f32).view.readAt (Elt F) (wRect e).toLoadRect (wstg m ρ c)

/-- Device `c`'s contribution to the rows of block `b`. -/
def contrib (c b : Dev nD) : FVec F S64x256 .f32 :=
  k0_pay4 (wExp m ρ c 0) (wExp m ρ c 1) (xRows m ρ c b) (aRows m ρ c b 0) (aRows m ρ c b 1)

/-- A block as the slice of the receive buffer it fills. -/
def lift3 (v : FVec F S64x256 .f32) : Vec F S1x64x256 .f32 :=
  fun y => v ((Shape.reshapeEquiv (squeezes_S1x64x256_S64x256).numel_eq).symm y)

/-- The kernel's result on device `c`: its own contribution to its rows, plus the other three devices'. -/
def outAt (c : Dev nD) : (cc0_stg3_0 : Ref sig .tc).ty.Contents (Elt F) :=
  k0_pay8 (k0_pay7 (k0_pay2 (wExp m ρ c 0)) (k0_pay3 (wExp m ρ c 1)) (xRows m ρ c c) (aRows m ρ c c 0) (aRows m ρ c c 1)
      (lift3 (contrib m ρ (hop (Fin.rev 0) c) c)))
    (lift3 (contrib m ρ (hop (Fin.rev 1) c) c)) (lift3 (contrib m ρ (hop (Fin.rev 2) c) c))

end Values

end Cert.MoeProof

end
-- ==== Proof.Sched.lean ====
/-
# The exchange's schedule

Seven cells per device, each with the one round 0. The barrier cell has three duties, one unit from each other device: device
`hop i c` pays duty `i` of `c`'s barrier cell, and with it hands `c` the right to write its receive slot `i`. Receive cell `j`
of `c` is paid by the copy that fills slot `j`; send cell `j` by the copy that has read the block it sent.
-/
module

public import proofs.«01_k».proof.Proof.Mesh

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ UU ℕ

/-! ## The cells -/

abbrev barS : Sem sig := (SemArray.scalar (sig.barrier 0 rfl) : Sems sig S_).sem

set_option backward.proofsInPublic true in
/-- Send semaphore `j` and receive semaphore `j`. -/
def xferS (k : Bool × Fin 3) : DmaSem sig := (⟨4 + (if k.1 then 3 else 0) + k.2.val, by have := k.2.isLt; split <;> omega⟩ : Fin 10)

/-- A device's cells: its barrier cell (`none`), its send cells (`some (false, j)`) and its receive cells (`some (true, j)`). -/
abbrev CIx : Type := Option (Bool × Fin 3)

/-- The kernel's own six semaphores, and all seven that the exchange uses. -/
def osem (k : Bool × Fin 3) : SemLoc sig := .dma (xferS k)
def csem : CIx → SemLoc sig
  | none => .reg barS
  | some k => osem k
/-- The cells as semaphores of their devices: any; the barrier cell; send cell `j`; receive cell `j`. -/
abbrev kcell (ck : Dev nD × CIx) : GSem nD τ sig := ((ck.1 : Thread nD τ), csem ck.2)
abbrev barCell (c : Dev nD) : GSem nD τ sig := kcell (c, none)
abbrev sendCell (c : Dev nD) (j : Fin 3) : GSem nD τ sig := kcell (c, some (false, j))
abbrev recvCell (c : Dev nD) (j : Fin 3) : GSem nD τ sig := kcell (c, some (true, j))

/-- Which cell a semaphore is, if any. -/
def role : SemLoc sig → Option CIx
  | .reg _ => some none
  | .dma q =>
    if 4 ≤ q.val ∧ q.val < 7 then some (some (false, Fin.ofNat 3 (q.val - 4)))
    else if 7 ≤ q.val ∧ q.val < 10 then some (some (true, Fin.ofNat 3 (q.val - 7)))
    else none

/-- A cell's semaphore is known to be that cell, so different cells have different semaphores. -/
theorem role_csem (k : CIx) : role (csem k) = some k := by revert k; decide
theorem csem_injective : Function.Injective csem := fun k k' h => by
  have := role_csem k; rw [h, role_csem] at this; exact (Option.some.inj this).symm
theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of one block's copy. -/
abbrev N : ℕ := (slotM 0).view.dmaCredit
/-- A copy brings a positive credit. -/
theorem N_pos : 0 < N := View.dmaCredit_pos _ (by decide)

/-! ## The schedule -/

/-- What paying duty `i` of `c`'s barrier cell hands `c`: slot `i` of device `hop i c`, that device being at round 0 of that
    slot's receive cell. -/
def barPay (c : Dev nD) (i : Fin 3) : sProp 𝕄 := iprop(anySlot (hop i c) i ∗ reached EX (recvCell (hop i c) i) 0)
/-- Slot `j` of `c`, holding the contribution of the device that fills it. -/
def recvPay (c : Dev nD) (j : Fin 3) : sProp 𝕄 := owns (c : Thread nD τ) (slotM j) fullShare (contrib m ρ (hop j.rev c) c)
/-- The outgoing block, given back once its copy has left. -/
def sendPay (c : Dev nD) (j : Fin 3) : sProp 𝕄 := anyPart c (hop j c)

/-- What each duty of a device's cells hands over. -/
def payOf (c : Dev nD) (d : Fin 3) : Option CIx → sProp 𝕄
  | some none => barPay c d
  | some (some (false, j)) => sendPay c j
  | some (some (true, j)) => recvPay m ρ c j
  | none => iprop(emp)

/-- What is handed over may be kept in an invariant. -/
instance payOf_storable (c : Dev nD) (d : Fin 3) (k : Option CIx) : BI.Storable (upEmb : UEmb _ 𝕄) (payOf (F := F) m ρ c d k) := by
  unfold payOf barPay sendPay recvPay
  split <;> infer_instance

/-- Three duties of a barrier cell, one of a send or receive cell. -/
def dutiesOf : Option CIx → Finset (Fin 3)
  | some none => Finset.univ
  | some (some _) => {0}
  | none => ∅

/-- The schedule: one round, in which a barrier duty brings one unit and a copy's duty the block's credit. -/
def Rd : Rounds.Schedule (GSem nD τ sig) (Fin 3) 𝕄 where
  duties g r := if r = 0 ∧ g.1.2 = .tc then dutiesOf (role g.2) else ∅
  unitless _ := False
  amount g _ _ := if role g.2 = some none then 1 else N
  payload g _ d := payOf m ρ g.1.1 d (role g.2)
  amount_pos g _ _ _ := by
    by_cases h : role g.2 = some none
    · rw [if_pos h]; exact Nat.one_pos
    · rw [if_neg h]; exact N_pos

/-- The schedule's payloads may be kept in an invariant. -/
instance Rd_payload_storable (g : GSem nD τ sig) (r : ℕ) (d : Fin 3) :
    BI.Storable (upEmb : UEmb _ 𝕄) ((Rd (F := F) m ρ).payload g r d) := payOf_storable m ρ _ _ _

/-- The schedule at the cells: the duties of round 0, that there are none later, the amounts and the payloads. -/
theorem duties_cell (c : Dev nD) (k : CIx) : (Rd (F := F) m ρ).duties (kcell (c, k)) 0 = dutiesOf (some k) := by
  dsimp only [Rd]; rw [if_pos ⟨rfl, rfl⟩, role_csem]
theorem duties_later (g : GSem nD τ sig) : ∀ r, 1 ≤ r → (Rd (F := F) m ρ).duties g r = ∅ :=
  fun r hr => by dsimp only [Rd]; rw [if_neg fun h => by omega]
theorem amount_bar (c : Dev nD) (d : Fin 3) : (Rd (F := F) m ρ).amount (barCell c) 0 d = 1 := by
  dsimp only [Rd]; rw [role_csem, if_pos rfl]
theorem amount_xfer (c : Dev nD) (k : Bool × Fin 3) (d : Fin 3) : (Rd (F := F) m ρ).amount (kcell (c, some k)) 0 d = N := by
  dsimp only [Rd]; rw [role_csem, if_neg (by simp)]
theorem payload_cell (c : Dev nD) (k : CIx) (d : Fin 3) : (Rd (F := F) m ρ).payload (kcell (c, k)) 0 d = payOf m ρ c d (some k) := by
  dsimp only [Rd]; rw [role_csem]

/-- A barrier cell expects three units in all, a send or receive cell one block's credit. -/
theorem expect_bar (c : Dev nD) : (Rd (F := F) m ρ).expect (barCell c) 0 = 3 := by
  unfold Schedule.expect Schedule.amountOf
  rw [duties_cell, Finset.sum_congr rfl fun d _ => amount_bar m ρ c d]; rfl
theorem expect_xfer (c : Dev nD) (k : Bool × Fin 3) : (Rd (F := F) m ρ).expect (kcell (c, some k)) 0 = N := by
  unfold Schedule.expect Schedule.amountOf
  rw [duties_cell]; unfold dutiesOf; rw [Finset.sum_singleton, amount_xfer]

/-- What the barrier wait brings: the three slots that `c` is to fill. -/
theorem rest_bar (c : Dev nD) :
    bigSep ((Rd (F := F) m ρ).duties (barCell c) 0 \ ∅) (fun d => (Rd (F := F) m ρ).payload (barCell c) 0 d)
      = iprop(barPay c 0 ∗ barPay c 1 ∗ barPay c 2) := by
  rw [Finset.sdiff_empty, duties_cell]; unfold dutiesOf
  rw [bigSep_univ_eq_bigSepL [0, 1, 2] (by decide) (by decide), bigSepL_cons_cons, bigSepL_cons_cons, bigSepL_singleton,
    payload_cell, payload_cell, payload_cell]
  rfl
/-- What the wait on a send cell brings: the block sent. -/
theorem rest_send (c : Dev nD) (j : Fin 3) :
    bigSep ((Rd (F := F) m ρ).duties (sendCell c j) 0 \ ∅) (fun d => (Rd (F := F) m ρ).payload (sendCell c j) 0 d) = sendPay c j := by
  rw [Finset.sdiff_empty, duties_cell]; unfold dutiesOf
  rw [bigSep_singleton, payload_cell]; rfl
/-- What the wait on a receive cell brings: the slot, filled. -/
theorem rest_recv (c : Dev nD) (j : Fin 3) :
    bigSep ((Rd (F := F) m ρ).duties (recvCell c j) 0 \ ∅) (fun d => (Rd (F := F) m ρ).payload (recvCell c j) 0 d) = recvPay m ρ c j := by
  rw [Finset.sdiff_empty, duties_cell]; unfold dutiesOf
  rw [bigSep_singleton, payload_cell]; rfl

/-! ## What each device owes, and the levels of its waits -/

/-- Device `c`'s credit to the receive cell it fills on the device `j + 1` places on; its unit to that device's barrier. -/
abbrev oweR (c : Dev nD) (j : Fin 3) : CellTallies nD τ sig Unit := tallyAt (recvCell (hop j c) j) () N
abbrev oweB (c : Dev nD) (j : Fin 3) : CellTallies nD τ sig Unit := tallyAt (barCell (hop j c)) () 1

/-- Owed after the three signals: the three copies, in the kernel's order from the right. -/
def O₁ (c : Dev nD) : CellTallies nD τ sig Unit := oweR c 2 + oweR c 0 + oweR c 1
/-- Owed at launch: the three signals too, in the kernel's order from the right. -/
def O₀ (c : Dev nD) : CellTallies nD τ sig Unit := O₁ c + oweB c 2 + oweB c 1 + oweB c 0

/-- Every semaphore of a device's core has a level; -/
def L (g : GSem nD τ sig) : Finset Unit := if g.1.2 = .tc then {()} else ∅
/-- Barrier cells at level 1, receive cells at 2, every other at 0. -/
def lvOf : Option CIx → ℕ
  | some none => 1
  | some (some (true, _)) => 2
  | _ => 0
/-- it is the level of its cell. -/
def lv (g : GSem nD τ sig) (_ : Unit) : ℕ := lvOf (role g.2)

/-- The levels at the cells. -/
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CIx) : lv (kcell (c, k)) () = lvOf (some k) := by unfold lv; rw [role_csem]

/-- A tally at one cell is positive only there. -/
theorem tally_pos {a g : GSem nD τ sig} {u : Unit} {n : ℕ} (h : 0 < tallyAt a () n g u) : g = a := by
  rw [tallyAt_apply] at h
  by_contra hn
  rw [if_neg fun h' => hn h'.1] at h; exact Nat.lt_irrefl 0 h

/-- If a sum of tallies is positive at a cell, one of the two is. -/
theorem add_pos_or {A B : CellTallies nD τ sig Unit} {g : GSem nD τ sig} {u : Unit} (h : 0 < (A + B) g u) : 0 < A g u ∨ 0 < B g u := by
  rw [Pi.add_apply, Finsupp.add_apply] at h; omega

/-- After the signals a device owes only to the receive cells that it fills. -/
theorem O₁_pos {c : Dev nD} {g : GSem nD τ sig} {u : Unit} (h : 0 < O₁ c g u) : ∃ j, g = recvCell (hop j c) j := by
  unfold O₁ at h
  rcases add_pos_or h with h | h
  · rcases add_pos_or h with h | h
    · exact ⟨2, tally_pos h⟩
    · exact ⟨0, tally_pos h⟩
  · exact ⟨1, tally_pos h⟩
/-- At launch a device owes only to those and to the barrier cells that it signals. -/
theorem O₀_pos {c : Dev nD} {g : GSem nD τ sig} {u : Unit} (h : 0 < O₀ c g u) :
    (∃ j, g = recvCell (hop j c) j) ∨ ∃ j, g = barCell (hop j c) := by
  unfold O₀ at h
  rcases add_pos_or h with h | h
  · rcases add_pos_or h with h | h
    · rcases add_pos_or h with h | h
      · exact .inl (O₁_pos h)
      · exact .inr ⟨2, tally_pos h⟩
    · exact .inr ⟨1, tally_pos h⟩
  · exact .inr ⟨0, tally_pos h⟩

/-- A device may wait on a staging semaphore while it owes all it owes at launch, or nothing. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; unfold lv; rw [hq]; exact Nat.le_refl 0)
      (fun g u hg => by
        rcases O₀_pos hg with ⟨j, rfl⟩ | ⟨j, rfl⟩
        · rw [lv_cell]; exact Nat.two_pos
        · rw [lv_cell]; exact Nat.one_pos)
  · rw [MayWait_zero]; iintro -; iempintro

/-- At its barrier wait a device owes its three copies only: receive cells, above the barrier cells. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨j, rfl⟩ := O₁_pos hg; exact Finset.mem_singleton_self _)
    (fun p hp => by rw [Finset.mem_singleton.mp hp]; exact Nat.le_refl 1)
    (fun g u hg => by obtain ⟨j, rfl⟩ := O₁_pos hg; rw [lv_cell]; exact Nat.lt_succ_self 1)

end Cert.MoeProof

end
-- ==== Proof.Steps.lean ====
/-
# The steps of the body

Each kind of step that the kernel's body takes, once, at a symbolic device `c` and peer `j`: a signal, the making of a
block, a copy, a wait for a copy, and the reading of a landed slot.
-/
module

public import proofs.«01_k».proof.Proof.Sched

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ UU ℕ

/-- No loop of the kernel needs a variant. -/
abbrev 𝒱₀ : Variants := Variants.none

/-- The facts every device may use throughout: each cell's invariant, at the name the launch gave it, and that each cell has
    reached round 0. -/
def records (K : Dev nD × CIx → ℕ) : sProp 𝕄 :=
  iprop((bigSep Finset.univ fun ck : Dev nD × CIx => cellInv EX (Rd m ρ) (K ck) (kcell ck))
    ∗ bigSep Finset.univ fun ck : Dev nD × CIx => reached EX (kcell ck) 0)

/-- Those facts may be used again and again. -/
instance records_persistent (K : Dev nD × CIx → ℕ) : BI.Persistent (records m ρ K) := by unfold records; infer_instance

/-- Of them: the invariant of a cell. -/
theorem records_inv (K : Dev nD × CIx → ℕ) (ck : Dev nD × CIx) : records m ρ K ⊢ cellInv EX (Rd m ρ) (K ck) (kcell ck) := by
  unfold records; iintro ⟨H, -⟩
  have h : (bigSep Finset.univ fun ck : Dev nD × CIx => (cellInv EX (Rd m ρ) (K ck) (kcell ck) : sProp 𝕄)) ⊢ cellInv EX (Rd m ρ) (K ck) (kcell ck) :=
    bigSep_elim (Finset.mem_univ ck)
  iapply h; iexact H
/-- Of them: that a cell has reached round 0. -/
theorem records_reached (K : Dev nD × CIx → ℕ) (ck : Dev nD × CIx) : records m ρ K ⊢ reached EX (kcell ck) 0 := by
  unfold records; iintro ⟨-, H⟩
  have h : (bigSep Finset.univ fun ck : Dev nD × CIx => (reached EX (kcell ck) 0 : sProp 𝕄)) ⊢ reached EX (kcell ck) 0 :=
    bigSep_elim (Finset.mem_univ ck)
  iapply h; iexact H

variable (K : Dev nD × CIx → ℕ)

/-- A SIGNAL to the device `j + 1` places on hands it the right to write slot `3 - (j + 1)` of this device. -/
theorem wp_sig {α : Type} {Q : α → sProp 𝕄} (c : Dev nD) (j : Fin 3) {n : Dev nD} (hn : n = hop j c) {k : PUnit → Prog (TpuEff nD τ sig (Elt F) Λ₀ .tc) α}
    (O : CellTallies nD τ sig Unit) (W : Waits sig Unit) :
    iprop(records m ρ K ∗ owes (c : Thread nD τ) (O + oweB c j) W ∗ dutyTok EX (barCell (hop j c)) 0 j.rev ∗ anySlot c j.rev)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS 1) k) Q) := by
  subst hn
  iintro ⟨#HR, HO, Ht, Hs⟩ Hk
  iapply (Rounds.wp_signal 𝒱₀ EX (Rd m ρ) (c : Thread nD τ) none (dst := (hop j c : Thread nD τ)) (κ := K (hop j c, none))
      (d := j.rev) ((congrArg (j.rev ∈ ·) (duties_cell m ρ (hop j c) none)).mpr (Finset.mem_univ _)) (amount_bar m ρ (hop j c) j.rev) () O rfl) $$ [HO Ht Hs]
  · isplitr; · iapply (records_inv m ρ K (hop j c, none)); iexact HR
    isplitl [HO]; · iexact HO
    isplitl [Ht]; · iexact Ht
    isplitl [Hs]
    · have hp : (Rd m ρ).payload ((hop j c : Thread nD τ), .reg barS) 0 j.rev = barPay (F := F) (hop j c) j.rev := payload_cell m ρ (hop j c) none j.rev
      rw [hp]; unfold barPay; rw [hop_rev_hop]
      isplitl [Hs]; · iexact Hs
      iapply (records_reached m ρ K (c, some (true, j.rev))); iexact HR
    · iapply (records_reached m ρ K (hop j c, none)); iexact HR
  iexact Hk

/-- A COPY of the block for the device `j + 1` places on into slot `j` there. -/
theorem wp_copy {α : Type} {Q : α → sProp 𝕄} (c : Dev nD) (j : Fin 3) {n : Dev nD} (hn : n = hop j c)
    {offS : Fin 2 → ℕ} (hoS : offS = ![64 * (hop j c).val, 0]) {inbS : ∀ a, offS a + S64x256.size a ≤ S256x256.size a}
    {offD : Fin 3 → ℕ} (hoD : offD = ![j.val, 0, 0]) {inbD : ∀ a, offD a + S1x64x256.size a ≤ S3x64x256.size a}
    {sS sV : DmaSem sig} (hS : sS = xferS (false, j)) (hV : sV = xferS (true, j))
    {hsc : ((vM : Memref sig (Dev.tc n : Thread nD τ).2.kind .vmem S3x64x256 .f32).slice (Rect.unit (s := S3x64x256) offD S1x64x256.size inbD) (fun _ => rfl) |>.squeeze S64x256 squeezes_S1x64x256_S64x256).view.ref.isScScratch = false}
    {hsrc : (pM.slice (Rect.unit (s := S256x256) offS S64x256.size inbS) (fun _ => rfl)).view.WordExact}
    {hdst : ((vM.slice (Rect.unit (s := S3x64x256) offD S1x64x256.size inbD) (fun _ => rfl)).squeeze S64x256 squeezes_S1x64x256_S64x256).view.WordExact}
    {hsem : DmaTarget.Typed .vmem (.dma sV) (.remote (Dev.tc n : Thread nD τ)
      ((vM.slice (Rect.unit (s := S3x64x256) offD S1x64x256.size inbD) (fun _ => rfl)).squeeze S64x256 squeezes_S1x64x256_S64x256) (.dma sS) hsc)}
    {k : PUnit → Prog (TpuEff nD τ sig (Elt F) Λ₀ .tc) α} (O : CellTallies nD τ sig Unit) (W : Waits sig Unit) :
    iprop(records m ρ K ∗ owns (c : Thread nD τ) (partM (hop j c)) fullShare (contrib m ρ c (hop j c)) ∗ anySlot (hop j c) j
        ∗ owes (c : Thread nD τ) (O + oweR c j) W
        ∗ dutyTok EX (sendCell c j) 0 0 ∗ dutyTok EX (recvCell (hop j c) j) 0 0)
      ⊢ iprop(((cred (tallyAt (sendCell c j) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pM.slice (Rect.unit (s := S256x256) offS S64x256.size inbS) (fun _ => rfl))
                (.remote (Dev.tc n : Thread nD τ) ((vM.slice (Rect.unit (s := S3x64x256) offD S1x64x256.size inbD) (fun _ => rfl)).squeeze S64x256 squeezes_S1x64x256_S64x256)
                  (.dma sS) hsc) (.dma sV) hsrc hdst hsem) k) Q) := by
  subst hn; subst hoS; subst hoD; subst hS; subst hV
  unfold owns anySlot
  iintro ⟨#HR, ⟨%fs, %hfs, Hp⟩, ⟨%fd, Hd⟩, HO, HtS, HtV⟩ Hk
  iapply (Rounds.wp_send_pointsTo 𝒱₀ EX (Rd m ρ) (c : Thread nD τ) none (κ₁ := K (c, some (false, j))) (κ₂ := K (hop j c, some (true, j)))
    (r₁ := 0) (r₂ := 0) (d₁ := 0) (d₂ := 0) (fd := fd) (fs := fs) (sS := .dma (xferS (false, j))) (sem := .dma (xferS (true, j)))
    (src := partM (hop j c)) (dst := slotM j) (c' := (hop j c : Thread nD τ))
    ((congrArg (0 ∈ ·) (duties_cell m ρ c (some (false, j)))).mpr (Finset.mem_singleton_self _))
    ((congrArg (0 ∈ ·) (duties_cell m ρ (hop j c) (some (true, j)))).mpr (Finset.mem_singleton_self _))
    () () N rfl (amount_xfer m ρ c (false, j) 0) (amount_xfer m ρ (hop j c) (true, j) 0) O rfl (W := W)
    (by
      refine BIBase.Entails.trans ?_ (Entails.of_eq (payload_cell m ρ c (some (false, j)) 0).symm)
      unfold payOf sendPay anyPart; iintro H; iexists fs; iexact H)
    (by
      refine BIBase.Entails.trans ?_ (Entails.of_eq (payload_cell m ρ (hop j c) (some (true, j)) 0).symm)
      unfold payOf recvPay owns; dsimp only; rw [hop_rev_hop]
      iintro H; iexists ((slotM j).view.write (Elt F) fd ((partM (hop j c)).view.read (Elt F) fs) Finset.univ)
      isplitr
      · ipureintro; exact (View.read_write_univ (v := (slotM j).view) fd _).trans hfs
      · iexact H)) $$ [Hp Hd HO HtS HtV]
  · isplitr; · iapply (records_inv m ρ K (c, some (false, j))); iexact HR
    isplitr; · iapply (records_inv m ρ K (hop j c, some (true, j))); iexact HR
    isplitl [Hp]; · iexact Hp
    isplitl [Hd]; · iexact Hd
    isplitl [HO]; · iexact HO
    isplitl [HtS]; · iexact HtS
    isplitr; · iapply (records_reached m ρ K (c, some (false, j))); iexact HR
    isplitl [HtV]; · iexact HtV
    iapply (records_reached m ρ K (hop j c, some (true, j))); iexact HR
  iexact Hk

/-- A WAIT for one of the device's own copies, owing nothing: it brings what the copy's duty pays, and the cell's counter is
    back at zero for good. -/
theorem wp_waitXfer {α : Type} {Q : α → sProp 𝕄} (c : Dev nD) (x : Bool × Fin 3) (W : Waits sig Unit)
    {s : DmaSem sig} {sp sp' : Space} {sh sh' : Shape} {e e' : EltTy} {src : Memref sig .tc sp' sh' e'} {κ' : Kind} {dst : Memref sig κ' sp sh e}
    {hsrc : src.view.WordExact} {hdst : dst.view.WordExact}
    {k : PUnit → Prog (TpuEff nD τ sig (Elt F) Λ₀ .tc) α} (hs : s = xferS x) (hN : dst.view.dmaCredit = N) :
    iprop(records m ρ K ∗ cred (tallyAt (kcell (c, some x)) () N) ∗ owes (c : Thread nD τ) 0 W ∗ atPos EX (kcell (c, some x)) 0 ∅ 0)
      ⊢ iprop(((owes (c : Thread nD τ) 0 (insert (SemLoc.dma (xferS x), ()) W) ∗ semVal (kcell (c, some x)) 0
              ∗ bigSep ((Rd m ρ).duties (kcell (c, some x)) 0 \ ∅) (fun d => (Rd m ρ).payload (kcell (c, some x)) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#HR, Hc, HO, Hat⟩ Hk
  iapply (Rounds.wp_wait_rest_token 𝒱₀ EX (Rd m ρ) (c : Thread nD τ) none (κ := K (c, some x))
      (fun R => (wpE_waitDma2_eq 𝒱₀ (c : Thread nD τ) none Set.univ R).trans (by rw [hN])) (Set.mem_univ _) () (O := 0) (W := W)
      (R := 0) (m := 0) (T := ∅) (by rw [Nat.zero_add]; exact (expect_xfer m ρ c x).symm)) $$ [Hc HO Hat]
  · isplitr; · iapply (records_inv m ρ K (c, some x)); iexact HR
    isplitl [Hc]; · iexact Hc
    isplitl [HO]; · iexact HO
    isplitr; · rw [MayWait_zero]; iempintro
    iexact Hat
  iintro ⟨HO, Hat, -, Hpay⟩
  imod (Rounds.cell_close EX (Rd m ρ) (Set.mem_univ (K (c, some x))) (fun h => h) (R := 0 + 1) (duties_later m ρ (kcell (c, some x)))) $$ [Hat] with Hz
  · isplitr; · iapply (records_inv m ρ K (c, some x)); iexact HR
    iexact Hat
  iapply Hk
  isplitl [HO]; · iexact HO
  isplitl [Hz]; · iexact Hz
  iexact Hpay

/-- The kernel MAKES a block: it reads the block's rows of the tokens and of the mask's two columns, and stores what it computes
    from them in the block's rows of the outgoing buffer. -/
theorem wp_make {α : Type} {Q : α → sProp 𝕄} (c b : Dev nD) {o1 o2 o3 o4 : Fin 2 → ℕ}
    (h1 : o1 = ![64 * b.val, 0]) (h2 : o2 = ![64 * b.val, 0]) (h3 : o3 = ![64 * b.val, 1]) (h4 : o4 = ![64 * b.val, 0])
    {i1 : ∀ a, o1 a + S64x128.size a ≤ S256x128.size a} {i2 : ∀ a, o2 a + S64x1.size a ≤ S256x2.size a}
    {i3 : ∀ a, o3 a + S64x1.size a ≤ S256x2.size a} {i4 : ∀ a, o4 a + S64x256.size a ≤ S256x256.size a}
    {l1 : xM.view.LoadsAt (Rect.unit (s := S256x128) o1 S64x128.size i1).toLoadRect}
    {l2 : kM.view.LoadsAt (Rect.unit (s := S256x2) o2 S64x1.size i2).toLoadRect}
    {l3 : kM.view.LoadsAt (Rect.unit (s := S256x2) o3 S64x1.size i3).toLoadRect}
    {l4 : pM.view.LoadsAt (Rect.unit (s := S256x256) o4 S64x256.size i4).toLoadRect}
    {pay : Vec F S64x128 .f32 → Vec F S64x1 .f32 → Vec F S64x1 .f32 → FVec F S64x256 .f32}
    (hpay : pay (xRows m ρ c b) (aRows m ρ c b 0) (aRows m ρ c b 1) = contrib m ρ c b)
    {hx : (pM.access (Rect.unit (s := S256x256) o4 S64x256.size i4)).Stores Finset.univ}
    {hm : (Finset.univ : Finset (Rect.unit (s := S256x256) o4 S64x256.size i4).shape.Idx) = Finset.univ ∨ ∀ a, (Rect.unit (s := S256x256) o4 S64x256.size i4).stride a = 1}
    {k : PUnit → Prog (TpuEff nD τ sig (Elt F) Λ₀ .tc) α} :
    iprop((((c : Thread nD τ).loc cc0_stg0_0) ↦{fullShare} xstg m ρ c) ∗ (((c : Thread nD τ).loc cc0_scratch1) ↦{fullShare} maskAt m ρ c) ∗ anyPart c b)
      ⊢ iprop((((((c : Thread nD τ).loc cc0_stg0_0) ↦{fullShare} xstg m ρ c) ∗ (((c : Thread nD τ).loc cc0_scratch1) ↦{fullShare} maskAt m ρ c)
              ∗ owns (c : Thread nD τ) (partM b) fullShare (contrib m ρ c b))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S256x128) o1 S64x128.size i1).toLoadRect l1) fun x =>
               .op (.load kM (Rect.unit (s := S256x2) o2 S64x1.size i2).toLoadRect l2) fun a0 =>
               .op (.load kM (Rect.unit (s := S256x2) o3 S64x1.size i3).toLoadRect l3) fun a1 =>
               .op (.load pM (Rect.unit (s := S256x256) o4 S64x256.size i4).toLoadRect l4) fun _ =>
               .op (.store pM (Rect.unit (s := S256x256) o4 S64x256.size i4) (pay x a0 a1) Finset.univ hx hm) k) Q) := by
  subst h1; subst h2; subst h3; subst h4
  unfold anyPart
  iintro ⟨Hx, Hm, ⟨%f, Hp⟩⟩ Hk
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hm; iintro Hm
  iapply (wp_load 𝒱₀ (c : Thread nD τ) none Set.univ (m := kM) (Finset.subset_univ _)) $$ Hm; iintro Hm
  iapply (wp_load_rect 𝒱₀ (c : Thread nD τ) none Set.univ (m := pM) (r := pRect b) (S := (partM b).view.set) (Finset.Subset.refl _)) $$ Hp; iintro Hp
  iapply (wp_store 𝒱₀ (c : Thread nD τ) none Set.univ (m := pM) (r := pRect b) (Mk := Finset.univ) (S := (partM b).view.set) (Finset.Subset.refl _)) $$ Hp; iintro Hp
  iapply Hk
  isplitl [Hx]; · iexact Hx
  isplitl [Hm]; · iexact Hm
  unfold owns
  iexists _
  isplitr
  rotate_left
  · iexact Hp
  · ipureintro
    exact (View.read_write_univ (v := (partM b).view) f _).trans hpay

/-- The kernel READS a landed slot. -/
theorem wp_readSlot {α : Type} {Q : α → sProp 𝕄} (c : Dev nD) (j : Fin 3) (v : FVec F S64x256 .f32) {o : Fin 3 → ℕ} (ho : o = ![j.val, 0, 0])
    {i : ∀ a, o a + S1x64x256.size a ≤ S3x64x256.size a} {l : vM.view.LoadsAt (Rect.unit (s := S3x64x256) o S1x64x256.size i).toLoadRect}
    {k : Vec F S1x64x256 .f32 → Prog (TpuEff nD τ sig (Elt F) Λ₀ .tc) α} :
    owns (c : Thread nD τ) (slotM j) fullShare v
      ⊢ iprop((anySlot c j -∗ wp frame (wpE (defs₀ (F := F)) 𝒱₀ (c : Thread nD τ) none) Set.univ (k (lift3 v)) Q)
          -∗ wp frame (wpE (defs₀ (F := F)) 𝒱₀ (c : Thread nD τ) none) Set.univ
              (.op (.load vM (Rect.unit (s := S3x64x256) o S1x64x256.size i).toLoadRect l) k) Q) := by
  subst ho
  unfold owns anySlot
  iintro ⟨%f, %hf, H⟩ Hk
  iapply (wp_load_rect 𝒱₀ (c : Thread nD τ) none Set.univ (m := vM) (r := vRect j) (S := (slotM j).view.set)
    (by rw [slotM_set]; exact (View.set_slice_whole _ _).subset)) $$ H; iintro H
  have hv : (vM.access (vRect j)).read (Elt F) f = lift3 v := by
    funext y
    rw [← hf]
    exact congrArg ((vM.access (vRect j)).read (Elt F) f) (Equiv.apply_symm_apply (Shape.reshapeEquiv (squeezes_S1x64x256_S64x256).numel_eq) y).symm
  rw [hv]
  iapply Hk
  iexists f; iexact H

/-- The kernel READS the rows of a block: of the tokens and of the mask's two columns. -/
theorem wp_readRows {α : Type} {Q : α → sProp 𝕄} (c b : Dev nD) {o1 o2 o3 : Fin 2 → ℕ}
    (h1 : o1 = ![64 * b.val, 0]) (h2 : o2 = ![64 * b.val, 0]) (h3 : o3 = ![64 * b.val, 1])
    {i1 : ∀ a, o1 a + S64x128.size a ≤ S256x128.size a} {i2 : ∀ a, o2 a + S64x1.size a ≤ S256x2.size a}
    {i3 : ∀ a, o3 a + S64x1.size a ≤ S256x2.size a}
    {l1 : xM.view.LoadsAt (Rect.unit (s := S256x128) o1 S64x128.size i1).toLoadRect}
    {l2 : kM.view.LoadsAt (Rect.unit (s := S256x2) o2 S64x1.size i2).toLoadRect}
    {l3 : kM.view.LoadsAt (Rect.unit (s := S256x2) o3 S64x1.size i3).toLoadRect}
    {k : Vec F S64x128 .f32 → Vec F S64x1 .f32 → Vec F S64x1 .f32 → Prog (TpuEff nD τ sig (Elt F) Λ₀ .tc) α} :
    iprop((((c : Thread nD τ).loc cc0_stg0_0) ↦{fullShare} xstg m ρ c) ∗ (((c : Thread nD τ).loc cc0_scratch1) ↦{fullShare} maskAt m ρ c))
      ⊢ iprop((((((c : Thread nD τ).loc cc0_stg0_0) ↦{fullShare} xstg m ρ c) ∗ (((c : Thread nD τ).loc cc0_scratch1) ↦{fullShare} maskAt m ρ c))
            -∗ wp frame (wpE (defs₀ (F := F)) 𝒱₀ (c : Thread nD τ) none) Set.univ (k (xRows m ρ c b) (aRows m ρ c b 0) (aRows m ρ c b 1)) Q)
          -∗ wp frame (wpE (defs₀ (F := F)) 𝒱₀ (c : Thread nD τ) none) Set.univ
              (.op (.load xM (Rect.unit (s := S256x128) o1 S64x128.size i1).toLoadRect l1) fun x =>
               .op (.load kM (Rect.unit (s := S256x2) o2 S64x1.size i2).toLoadRect l2) fun a0 =>
               .op (.load kM (Rect.unit (s := S256x2) o3 S64x1.size i3).toLoadRect l3) fun a1 => k x a0 a1) Q) := by
  subst h1; subst h2; subst h3
  iintro ⟨Hx, Hm⟩ Hk
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hm; iintro Hm
  iapply (wp_load 𝒱₀ (c : Thread nD τ) none Set.univ (m := kM) (Finset.subset_univ _)) $$ Hm; iintro Hm
  iapply Hk
  isplitl [Hx]; · iexact Hx
  iexact Hm

/-- The corner of a buffer of two axes. -/
theorem corner2 : (![0, 0] : Fin 2 → Nat) = fun _ => 0 := funext fun a => by fin_cases a <;> rfl

/-- The kernel WRITES the whole of its result. -/
theorem wp_writeOut {α : Type} {Q : α → sProp 𝕄} (c : Dev nD) (g : Buf (Elt F) ((c : Thread nD τ).loc cc0_stg3_0))
    {l : oM.view.LoadsAt (Rect.unit (s := S64x256) ![0, 0] S64x256.size inb_S64x256_S64x256_0_0).toLoadRect}
    {v : FVec F S64x256 .f32}
    {hx : (oM.access (Rect.unit (s := S64x256) ![0, 0] S64x256.size inb_S64x256_S64x256_0_0)).Stores Finset.univ}
    {hm : (Finset.univ : Finset (Rect.unit (s := S64x256) ![0, 0] S64x256.size inb_S64x256_S64x256_0_0).shape.Idx) = Finset.univ ∨ ∀ a, (Rect.unit (s := S64x256) ![0, 0] S64x256.size inb_S64x256_S64x256_0_0).stride a = 1}
    {k : PUnit → Prog (TpuEff nD τ sig (Elt F) Λ₀ .tc) α} :
    (((c : Thread nD τ).loc cc0_stg3_0) ↦{fullShare} g : sProp 𝕄)
      ⊢ iprop(((((c : Thread nD τ).loc cc0_stg3_0) ↦{fullShare} v) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S64x256) ![0, 0] S64x256.size inb_S64x256_S64x256_0_0).toLoadRect l) fun _ =>
               .op (.store oM (Rect.unit (s := S64x256) ![0, 0] S64x256.size inb_S64x256_S64x256_0_0) v Finset.univ hx hm) k) Q) := by
  iintro Hout Hk
  iapply (wp_load 𝒱₀ (c : Thread nD τ) none Set.univ (m := oM) (Finset.subset_univ _)) $$ Hout; iintro Hout
  iapply (wp_store 𝒱₀ (c : Thread nD τ) none Set.univ (m := oM) (r := Rect.unit (s := S64x256) ![0, 0] S64x256.size inb_S64x256_S64x256_0_0)
    (Mk := Finset.univ) (Finset.subset_univ _)) $$ Hout; iintro Hout
  have hout := Memref.write_access_unit_zero_univ (Elt F) cc0_stg3_0 corner2 inb_S64x256_S64x256_0_0 g v
  ihave Hout := (Entails.of_eq (congrArg (fun z => (((c : Thread nD τ).loc cc0_stg3_0) ↦{fullShare} z : sProp 𝕄)) hout)) $$ Hout
  iapply Hk
  iexact Hout

end Cert.MoeProof

end
-- ==== Proof.Body.lean ====
/-
# The body, at a symbolic device

The kernel's body is run once, at a symbolic device `c`, from what the launch gives `c` to its result in the output buffer.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## What a device starts from and ends with -/

/-- Device `c`'s own positions at round 0 of its cells, and the tokens of the duties it pays: for each `j`, a unit of the barrier
    of the device `j + 1` places on, that device's receive cell `j`, its own send cell `j`. -/
def linear (c : Dev nD) : sProp 𝕄 :=
  iprop((bigSep Finset.univ fun k : CIx => atPos EX (kcell (c, k)) 0 ∅ 0)
    ∗ (bigSep Finset.univ fun j : Fin 3 => dutyTok EX (barCell (hop j c)) 0 j.rev)
    ∗ (bigSep Finset.univ fun j : Fin 3 => dutyTok EX (recvCell (hop j c) j) 0 0)
    ∗ bigSep Finset.univ fun j : Fin 3 => dutyTok EX (sendCell c j) 0 0)

/-- The credits device `c` waits with: three units of its barrier, one block for each of its receive cells. -/
def credits (c : Dev nD) : sProp 𝕄 :=
  iprop(cred (tallyAt (barCell c) () 3) ∗ bigSep Finset.univ fun j : Fin 3 => cred (tallyAt (recvCell c j) () N))

/-- The exchange's part of what device `c`'s body starts from. -/
def start (c : Dev nD) : sProp 𝕄 := iprop((∃ K, records m ρ K ∗ linear c) ∗ credits c ∗ levAts L lv)

/-- The three scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What a device has before the body: what the launch gave it, and its scratch buffers. -/
def Φ₀ (c : Dev nD) : sProp 𝕄 := iprop(start m ρ c ∗ scratch c)
/-- After the body every cell's counter is zero, for good. -/
def Φ₁ (c : Dev nD) : sProp 𝕄 := iprop(scratch c ∗ bigSep Finset.univ fun k : CIx => semVal (kcell (c, k)) 0)

/-- The pipeline's data: the inputs stay, the output becomes `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The launch's one grid point. -/
abbrev t₀ : Fin cfg0.N := t0_0

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole staging buffer with contents `X` is its holding `X`. -/
theorem owns_whole (c : Dev nD) (b : Ref sig .tc) (X : b.ty.Contents (Elt F)) :
    (owns (c : Thread nD τ) (Memref.whole b) fullShare X : sProp 𝕄) = stg c b X := by
  unfold owns; simp only [Memref.view_whole, View.read_whole, View.set_whole]

/-- What the body starts from: what the device has, what it owes, and the four staging buffers. -/
def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- What the body ends with: nothing owed, the inputs as they were, the output at `outAt`. -/
def bodyPost (c : Dev nD) : sProp 𝕄 :=
  iprop(Φ₁ c ∗ (dats m ρ 0 c).owesAt () t₀.succ
    ∗ stg c cc0_stg0_0 (xstg m ρ c) ∗ stg c cc0_stg1_0 (rstg m ρ c) ∗ stg c cc0_stg2_0 (wstg m ρ c) ∗ stg c cc0_stg3_0 (outAt m ρ c))

/-- A statement of all seven cells of a device, one by one. -/
theorem bigSep_cells (Φ : CIx → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ

/-- The four blocks, as device `c` numbers them: its own, then those for the devices 1, 2, 3 places on. -/
theorem bigSep_blocks (c : Dev nD) (Φ : Dev nD → sProp 𝕄) :
    bigSep Finset.univ Φ = iprop(Φ c ∗ Φ (hop 0 c) ∗ Φ (hop 1 c) ∗ Φ (hop 2 c)) :=
  bigSep_univ_eq_bigSepL [c, hop 0 c, hop 1 c, hop 2 c] (by revert c; decide) (by revert c; decide) Φ

set_option maxHeartbeats 4000000 in
set_option maxRecDepth 8000 in
/-- The body, run on device `c` from `bodyPre`, ends with `bodyPost`: the signals, the mask, the barrier wait, the three
    blocks computed and sent, the device's own block, the three blocks received and added, and the waits for the copies sent. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre Φ₀ start scratch credits
  iintro ⟨⟨⟨⟨⟨%K, #HR, Hlin⟩, ⟨HcB, HcV⟩, #Hlev⟩, Hp, ⟨%fk, Hm⟩, Hv⟩, Ho, ⟨%d0, %g0, %hg0, Hx⟩, ⟨%d1, %g1, %hg1, Hr⟩, ⟨%d2, %g2, %hg2, Hw⟩, ⟨%d3, %g3, %hg3, Hout⟩⟩, Hk⟩
  have hx : g0 = xstg m ρ c := by rw [hg0]; unfold Dat.before; rw [if_pos (fetch0_0 t₀)]; rfl
  have hr : g1 = rstg m ρ c := by rw [hg1]; unfold Dat.before; rw [if_pos (fetch0_1 t₀)]; rfl
  have hw : g2 = wstg m ρ c := by rw [hg2]; unfold Dat.before; rw [if_pos (fetch0_2 t₀)]; rfl
  subst hx; subst hr; subst hw
  unfold Dat.owesAt Pipeline.owesWithin
  icases Ho with ⟨%W, %hW, HO⟩
  rw [show (dats m ρ 0 c).owed t₀.castSucc = O₀ c from rfl]
  ihave Hp := (parts_split c) $$ Hp
  ihave Hp := (Entails.of_eq (bigSep_blocks c _)) $$ Hp
  icases Hp with ⟨Hp, Hp0, Hp1, Hp2⟩
  ihave Hv := (slots_split c) $$ Hv
  ihave Hv := (Entails.of_eq (Ring.bigSep_fin3 _)) $$ Hv
  icases Hv with ⟨Hv0, Hv1, Hv2⟩
  unfold linear
  icases Hlin with ⟨Hat, HtB, HtV, HtS⟩
  ihave Hat := (Entails.of_eq (bigSep_cells _)) $$ Hat
  icases Hat with ⟨HaB, HaS0, HaS1, HaS2, HaV0, HaV1, HaV2⟩
  ihave HtB := (Entails.of_eq (Ring.bigSep_fin3 _)) $$ HtB
  icases HtB with ⟨HtB0, HtB1, HtB2⟩
  ihave HtV := (Entails.of_eq (Ring.bigSep_fin3 _)) $$ HtV
  icases HtV with ⟨HtV0, HtV1, HtV2⟩
  ihave HtS := (Entails.of_eq (Ring.bigSep_fin3 _)) $$ HtS
  icases HtS with ⟨HtS0, HtS1, HtS2⟩
  ihave HcV := (Entails.of_eq (Ring.bigSep_fin3 _)) $$ HcV
  icases HcV with ⟨HcV0, HcV1, HcV2⟩
  unfold O₀
  -- the three signals
  iapply (wp_sig m ρ K c 0 (dev1_eq c) (O₁ c + oweB c 2 + oweB c 1) W) $$ [HO HtB0 Hv2]
  · isplitr; · iexact HR
    isplitl [HO]; · iexact HO
    isplitl [HtB0]; · iexact HtB0
    iexact Hv2
  iintro HO
  iapply (wp_sig m ρ K c 1 (dev2_eq c) (O₁ c + oweB c 2) W) $$ [HO HtB1 Hv1]
  · isplitr; · iexact HR
    isplitl [HO]; · iexact HO
    isplitl [HtB1]; · iexact HtB1
    iexact Hv1
  iintro HO
  iapply (wp_sig m ρ K c 2 (dev3_eq c) (O₁ c) W) $$ [HO HtB2 Hv0]
  · isplitr; · iexact HR
    isplitl [HO]; · iexact HO
    isplitl [HtB2]; · iexact HtB2
    iexact Hv0
  iintro HO
  -- the mask
  iapply (wp_load 𝒱₀ (c : Thread nD τ) none Set.univ (m := rM) (Finset.subset_univ _)) $$ Hr; iintro Hr
  iapply (wp_load 𝒱₀ (c : Thread nD τ) none Set.univ (m := kM) (Finset.subset_univ _)) $$ Hm; iintro Hm
  iapply (wp_store 𝒱₀ (c : Thread nD τ) none Set.univ (m := kM) (r := Rect.unit (s := S256x2) ![0, 0] S256x2.size inb_S256x2_S256x2_0_0)
    (Mk := Finset.univ) (Finset.subset_univ _)) $$ Hm; iintro Hm
  have hmask := Memref.write_access_unit_zero_univ (Elt F) cc0_scratch1 corner2 inb_S256x2_S256x2_0_0 fk
    (k0_pay1 (posW c) ((rM : Memref sig .tc .vmem S256x1 .i32).view.readAt (Elt F) (Rect.unit (s := S256x1) ![0, 0] S256x1.size inb_S256x1_S256x1_0_0).toLoadRect (rstg m ρ c)))
  have hmask' := hmask.trans (show _ = maskAt m ρ c from
    congrArg (k0_pay1 (posW c)) (Memref.readAt_unit_zero (Elt F) cc0_stg1_0 corner2 inb_S256x1_S256x1_0_0 (rstg m ρ c)))
  ihave Hm := (Entails.of_eq (congrArg (fun z => (((c : Thread nD τ).loc cc0_scratch1) ↦{fullShare} z : sProp 𝕄)) hmask')) $$ Hm
  -- the barrier
  iapply (Rounds.wp_wait_rest_token 𝒱₀ EX (Rd m ρ) (c : Thread nD τ) none (κ := K (c, none))
      (wpE_semWait_eq 𝒱₀ (c : Thread nD τ) none Set.univ) (Set.mem_univ _) () (O := O₁ c) (W := W) (R := 0) (m := 0) (T := ∅)
      ((Nat.zero_add _).trans (expect_bar m ρ c).symm)) $$ [HcB HO HaB]
  · isplitr; · iapply (records_inv m ρ K (c, none)); iexact HR
    isplitl [HcB]; · iexact HcB
    isplitl [HO]; · iexact HO
    isplitr; · iapply (mayWait_bar c); iexact Hlev
    iexact HaB
  iintro ⟨HO, HaB, -, Hpay⟩
  imod (Rounds.cell_close EX (Rd m ρ) (Set.mem_univ (K (c, none))) (fun h => h) (R := 0 + 1) (duties_later m ρ (barCell c))) $$ [HaB] with HzB
  · isplitr; · iapply (records_inv m ρ K (c, none)); iexact HR
    iexact HaB
  ihave Hpay := (show bigSep ((Rd m ρ).duties ((c : Thread nD τ), SemLoc.reg barS) 0 \ ∅)
      (fun d => (Rd m ρ).payload ((c : Thread nD τ), SemLoc.reg barS) 0 d) ⊢ _ from Entails.of_eq (rest_bar m ρ c)) $$ Hpay
  unfold barPay
  icases Hpay with ⟨⟨Hd0, -⟩, ⟨Hd1, -⟩, ⟨Hd2, -⟩⟩
  -- the weights, then the three blocks and their copies
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  unfold O₁
  iapply (wp_make m ρ c (hop 1 c) (off1_eq c 1) (off2_eq c 1) (off3_eq c 1) (off4_eq c 1) rfl) $$ [Hx Hm Hp1]
  · isplitl [Hx]; · iexact Hx
    isplitl [Hm]; · iexact Hm
    iexact Hp1
  iintro ⟨Hx, Hm, Hp1⟩
  iapply (wp_copy m ρ K c 1 (dev4_eq c) (off5_eq c 1) rfl rfl rfl (oweR c 2 + oweR c 0) (insert (SemLoc.reg barS, ()) W)) $$ [Hp1 Hd1 HO HtS1 HtV1]
  · isplitr; · iexact HR
    isplitl [Hp1]; · iexact Hp1
    isplitl [Hd1]; · iexact Hd1
    isplitl [HO]; · iexact HO
    isplitl [HtS1]; · iexact HtS1
    iexact HtV1
  iintro ⟨HcS1, HO⟩
  iapply (wp_make m ρ c (hop 0 c) (off1_eq c 0) (off2_eq c 0) (off3_eq c 0) (off4_eq c 0) rfl) $$ [Hx Hm Hp0]
  · isplitl [Hx]; · iexact Hx
    isplitl [Hm]; · iexact Hm
    iexact Hp0
  iintro ⟨Hx, Hm, Hp0⟩
  iapply (wp_copy m ρ K c 0 (dev5_eq c) (off5_eq c 0) rfl rfl rfl (oweR c 2) (insert (SemLoc.reg barS, ()) W)) $$ [Hp0 Hd0 HO HtS0 HtV0]
  · isplitr; · iexact HR
    isplitl [Hp0]; · iexact Hp0
    isplitl [Hd0]; · iexact Hd0
    isplitl [HO]; · iexact HO
    isplitl [HtS0]; · iexact HtS0
    iexact HtV0
  iintro ⟨HcS0, HO⟩
  ihave HO := (Entails.of_eq (congrArg (fun z => (owes (c : Thread nD τ) z (insert (SemLoc.reg barS, ()) W) : sProp 𝕄))
    (zero_add (oweR c 2)).symm)) $$ HO
  iapply (wp_make m ρ c (hop 2 c) (off1_eq c 2) (off2_eq c 2) (off3_eq c 2) (off4_eq c 2) rfl) $$ [Hx Hm Hp2]
  · isplitl [Hx]; · iexact Hx
    isplitl [Hm]; · iexact Hm
    iexact Hp2
  iintro ⟨Hx, Hm, Hp2⟩
  iapply (wp_copy m ρ K c 2 (dev6_eq c) (off5_eq c 2) rfl rfl rfl (0) (insert (SemLoc.reg barS, ()) W)) $$ [Hp2 Hd2 HO HtS2 HtV2]
  · isplitr; · iexact HR
    isplitl [Hp2]; · iexact Hp2
    isplitl [Hd2]; · iexact Hd2
    isplitl [HO]; · iexact HO
    isplitl [HtS2]; · iexact HtS2
    iexact HtV2
  iintro ⟨HcS2, HO⟩
  -- its own block
  iapply (wp_readRows m ρ c c (k0_off6_eq c) (k0_off7_eq c) (k0_off8_eq c)) $$ [Hx Hm]
  · isplitl [Hx]; · iexact Hx
    iexact Hm
  iintro ⟨Hx, Hm⟩
  -- the three blocks that come in
  iapply (wp_waitXfer m ρ K c (true, 0) _ rfl ?hN) $$ [HcV0 HO HaV0]
  case hN => rfl
  · isplitr; · iexact HR
    isplitl [HcV0]; · iexact HcV0
    isplitl [HO]; · iexact HO
    iexact HaV0
  iintro ⟨HO, HzV0, Hpay⟩
  ihave Hs0 := (Entails.of_eq (rest_recv m ρ c 0)) $$ Hpay
  unfold recvPay
  iapply (wp_readSlot c 0 _ rfl) $$ Hs0; iintro Hs0
  iapply (wp_waitXfer m ρ K c (true, 1) _ rfl ?hN) $$ [HcV1 HO HaV1]
  case hN => rfl
  · isplitr; · iexact HR
    isplitl [HcV1]; · iexact HcV1
    isplitl [HO]; · iexact HO
    iexact HaV1
  iintro ⟨HO, HzV1, Hpay⟩
  ihave Hs1 := (Entails.of_eq (rest_recv m ρ c 1)) $$ Hpay
  unfold recvPay
  iapply (wp_readSlot c 1 _ rfl) $$ Hs1; iintro Hs1
  iapply (wp_waitXfer m ρ K c (true, 2) _ rfl ?hN) $$ [HcV2 HO HaV2]
  case hN => rfl
  · isplitr; · iexact HR
    isplitl [HcV2]; · iexact HcV2
    isplitl [HO]; · iexact HO
    iexact HaV2
  iintro ⟨HO, HzV2, Hpay⟩
  ihave Hs2 := (Entails.of_eq (rest_recv m ρ c 2)) $$ Hpay
  unfold recvPay
  iapply (wp_readSlot c 2 _ rfl) $$ Hs2; iintro Hs2
  -- the result
  iapply (wp_writeOut c g3) $$ Hout; iintro Hout
  -- the copies' sources back
  iapply (wp_waitXfer m ρ K c (false, 0) _ rfl ?hN) $$ [HcS0 HO HaS0]
  case hN => rfl
  · isplitr; · iexact HR
    isplitl [HcS0]; · iexact HcS0
    isplitl [HO]; · iexact HO
    iexact HaS0
  iintro ⟨HO, HzS0, Hpay⟩
  ihave Hp0 := (Entails.of_eq (rest_send m ρ c 0)) $$ Hpay
  unfold sendPay
  iapply (wp_waitXfer m ρ K c (false, 1) _ rfl ?hN) $$ [HcS1 HO HaS1]
  case hN => rfl
  · isplitr; · iexact HR
    isplitl [HcS1]; · iexact HcS1
    isplitl [HO]; · iexact HO
    iexact HaS1
  iintro ⟨HO, HzS1, Hpay⟩
  ihave Hp1 := (Entails.of_eq (rest_send m ρ c 1)) $$ Hpay
  unfold sendPay
  iapply (wp_waitXfer m ρ K c (false, 2) _ rfl ?hN) $$ [HcS2 HO HaS2]
  case hN => rfl
  · isplitr; · iexact HR
    isplitl [HcS2]; · iexact HcS2
    isplitl [HO]; · iexact HO
    iexact HaS2
  iintro ⟨HO, HzS2, Hpay⟩
  ihave Hp2 := (Entails.of_eq (rest_send m ρ c 2)) $$ Hpay
  unfold sendPay
  rw [wp_ret]; imodintro
  iapply Hk
  unfold bodyPost Φ₁ scratch Dat.owesAt Pipeline.owesWithin
  rw [show (dats m ρ 0 c).owed t₀.succ = 0 from rfl]
  isplitl [Hp Hp0 Hp1 Hp2 Hm Hs0 Hs1 Hs2 HzB HzS0 HzS1 HzS2 HzV0 HzV1 HzV2]
  · isplitl [Hp Hp0 Hp1 Hp2 Hm Hs0 Hs1 Hs2]
    · isplitl [Hp Hp0 Hp1 Hp2]
      · iapply (parts_join c (fun _ => FloatOps.ofBits _ 0))
        iapply (Entails.of_eq (bigSep_blocks c (fun b => anyPart (F := F) c b)).symm)
        isplitl [Hp]; · iexact Hp
        isplitl [Hp0]; · iexact Hp0
        isplitl [Hp1]; · iexact Hp1
        iexact Hp2
      isplitl [Hm]; · iexists _; iexact Hm
      iapply (slots_join c (fun _ => FloatOps.ofBits _ 0))
      iapply (Entails.of_eq (Ring.bigSep_fin3 (fun j => anySlot (F := F) c j)).symm)
      isplitl [Hs0]; · iexact Hs0
      isplitl [Hs1]; · iexact Hs1
      iexact Hs2
    iapply (Entails.of_eq (bigSep_cells (F := F) (fun k => semVal (kcell (c, k)) 0)).symm)
    isplitl [HzB]; · iexact HzB
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists _
    isplitr
    rotate_left
    · iexact HO
    · ipureintro; exact fun _ _ => Or.inl trivial
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr
  rotate_left
  · iexact Hout
  · ipureintro; rfl

set_option maxRecDepth 8000 in
/-- The library's body obligation on device `c`. -/
theorem body_obligation (c : Dev nD) : BodyObligation (dats (F := F) m ρ 0 c) (defs₀ (F := F)) 𝒱₀ () Set.univ := fun t => by
  rw [fin_N0 t, bigSep_W0, bigSep_W0]
  simp only [owns_whole]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m ρ c)
  iintro H
  iapply (sound_body m ρ c fun _ => bodyPost m ρ c)
  isplitl [H]; · iexact H
  iintro H; iexact H

end Cert.MoeProof

end
-- ==== Proof.Launch.lean ====
/-
# The launch, and the program's run

The launch creates every cell, deals out the tokens and credits of the exchange, and runs the body on the four devices. The run
ends with every device's result at `outAt`, its arguments unchanged and every semaphore at zero.
-/
module

public import proofs.«01_k».proof.Proof.Body
public import Idealize.ShloMosaic.Lib.Pipeline.Kit
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-- The kernel's six semaphores are its own, each once, and none of them stages a window. -/
theorem ownSemFacts : Pipeline.OwnSemFacts cfg0.spec osem := by decide

/-- Every window is held in full. -/
theorem share_eq (c : Dev nD) (w : Fin cfg0.W) : (dats m ρ 0 c).share w = fullShare := by unfold Dat.share; split <;> rfl

/-! ## The cells and the tokens -/

/-- The cells of all devices. -/
def allCells : Finset (GSem nD τ sig) := Finset.univ.map ⟨kcell, kcell_injective⟩

/-- Which duties a device's own cells have: three of its barrier cell, one of each other cell. -/
abbrev TIx : Type := Fin 3 ⊕ (Bool × Fin 3)
/-- The duty that an index names: a cell, its round 0, and the duty's number. -/
abbrev tokOf : Dev nD × TIx → GSem nD τ sig × ℕ × Fin 3
  | (c, .inl i) => (barCell c, 0, i)
  | (c, .inr k) => (kcell (c, some k), 0, 0)
/-- Different indices name different duties. -/
theorem tokOf_injective : Function.Injective tokOf := by
  rintro ⟨c, i | k⟩ ⟨c', i' | k'⟩ h <;> injection h with h1 h2
  · have e := Prod.mk.inj (kcell_injective h1); injection h2 with _ h3; rw [e.1, h3]
  · have e := Prod.mk.inj (kcell_injective h1); cases e.2
  · have e := Prod.mk.inj (kcell_injective h1); cases e.2
  · have e := Prod.mk.inj (kcell_injective h1); rw [e.1, Option.some.inj e.2]
/-- The duties of all devices. -/
def allToks : Finset (GSem nD τ sig × ℕ × Fin 3) := Finset.univ.map ⟨tokOf, tokOf_injective⟩

/-- The ghost state at launch: the pipeline's, and the exchange's cells and duties. -/
def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun i : Fin 3 => dutyTok EX (barCell c) 0 i)
    ∗ (bigSep Finset.univ fun j : Fin 3 => dutyTok EX (recvCell c j) 0 0) ∗ bigSep Finset.univ fun j : Fin 3 => dutyTok EX (sendCell c j) 0 0)

/-- What the launch deals device `c`: its cells' states and positions, and its own cells' tokens. -/
def G (c : Dev nD) : sProp 𝕄 :=
  iprop((bigSep Finset.univ fun k : CIx => roundState EX (Rd m ρ) (kcell (c, k)) 0)
    ∗ (bigSep Finset.univ fun k : CIx => iprop(atPos EX (kcell (c, k)) 0 ∅ 0 ∗ reached EX (kcell (c, k)) 0)) ∗ toks c)
/-- What the devices make of it together: the shared facts, and each device's linear part. -/
def G' (c : Dev nD) : sProp 𝕄 := iprop(∃ K, records m ρ K ∗ linear c)

/-- The tokens of a device's duties, sorted by kind of cell. -/
theorem bigSep_toks (c : Dev nD) : (bigSep Finset.univ fun t : TIx => (dutyTok EX (tokOf (c, t)).1 (tokOf (c, t)).2.1 (tokOf (c, t)).2.2 : sProp 𝕄)) ⊢ toks c := by
  have hk (Φ : Bool × Fin 3 → sProp 𝕄) : bigSep Finset.univ Φ = iprop((bigSep Finset.univ fun j => Φ (false, j)) ∗ bigSep Finset.univ fun j => Φ (true, j)) := by
    rw [bigSep_univ_prod, bigSep_univ_eq_bigSepL [false, true] (by decide) (by decide)]; rfl
  unfold toks
  have hs := (bigSep_univ_sum (fun t : TIx => (dutyTok EX (tokOf (c, t)).1 (tokOf (c, t)).2.1 (tokOf (c, t)).2.2 : sProp 𝕄))).trans
    (congrArg (fun z => iprop((bigSep Finset.univ fun i : Fin 3 => (dutyTok EX (barCell c) 0 i : sProp 𝕄)) ∗ z))
      (hk fun k => dutyTok EX (kcell (c, some k)) 0 0))
  iintro H
  ihave H := (Entails.of_eq hs) $$ H
  icases H with ⟨HB, HS, HV⟩
  isplitl [HB]; · iexact HB
  isplitl [HV]; · iexact HV
  iexact HS

/-- The exchange's ghost state at launch gives every device its share. -/
theorem fund : BI.own (EX (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok EX x.1 x.2.1 x.2.2 : sProp 𝕄)) ⊢ bigSep Finset.univ fun c : Dev nD => toks c := by
    unfold allToks; rw [bigSep_map, bigSep_univ_prod]
    exact bigSep_mono fun c _ => bigSep_toks c
  iintro HX
  imod (Rounds.fund EX (Rd m ρ) allCells allToks) $$ HX with ⟨Hst, Hr, Hat, Htok⟩
  imodintro
  ihave Hst := (Entails.of_eq (hX fun g => roundState EX (Rd m ρ) g 0)) $$ Hst
  ihave Hat := (Entails.of_eq (hX fun g => atPos EX g 0 ∅ 0)) $$ Hat
  ihave Hr := (Entails.of_eq (hX fun g => reached EX g 0)) $$ Hr
  ihave Htok := (hT) $$ Htok
  unfold G; simp only [bigSep_sep']
  isplitl [Hst]; · iexact Hst
  isplitl [Hat Hr]
  · isplitl [Hat] <;> iassumption
  iexact Htok

/-! ## The semaphores at zero -/

/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [(false, 0), (false, 1), (false, 2), (true, 0), (true, 1), (true, 2)] (by decide) (by decide)]; rfl
/-- The only other semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's six semaphores and the barrier semaphore are the device's seven cells. -/
theorem sems0_cells (c : Dev nD) :
    (bigSep Finset.univ fun k : CIx => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_cells]

/-- From its semaphores at zero a device makes its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (Rd m ρ) κ (kcell (c, k))))
          ∗ (bigSep Finset.univ fun k => iprop(atPos EX (kcell (c, k)) 0 ∅ 0 ∗ reached EX (kcell (c, k)) 0)) ∗ toks c) := by
  have halloc : iprop((bigSep Finset.univ fun k : CIx => semVal (kcell (c, k)) 0) ∗ bigSep Finset.univ fun k : CIx => roundState EX (Rd m ρ) (kcell (c, k)) 0)
      ⊢ (|={Set.univ}=> bigSep Finset.univ fun k => iprop(∃ κ : ℕ, cellInv EX (Rd m ρ) κ (kcell (c, k))) : sProp 𝕄) := by
    rw [← bigSep_sep']
    exact (bigSep_mono fun k _ => (Rounds.body_intro EX (Rd m ρ) (kcell (c, k))).trans inv_alloc).trans (bigSep_fupd _ _)
  unfold G
  iintro ⟨Hos, Hus, Hst, Hat, Htok⟩
  imod (halloc) $$ [Hos Hus Hst] with Hinv
  · isplitl [Hos Hus]
    · iapply (Entails.of_eq (sems0_cells (F := F) c).symm)
      isplitl [Hus] <;> iassumption
    iexact Hst
  imodintro
  isplitl [Hinv]; · iexact Hinv
  isplitl [Hat]; · iexact Hat
  iexact Htok

/-- The tokens go to the devices that pay: duty `i` of a barrier cell to the device from which it is `i.rev + 1` places on,
    receive cell `j`'s to the device from which it is `j + 1` places on. -/
theorem toks_around : (bigSep Finset.univ fun c : Dev nD => (toks c : sProp 𝕄))
    ⊢ bigSep Finset.univ fun c : Dev nD => iprop((bigSep Finset.univ fun j : Fin 3 => dutyTok EX (barCell (hop j c)) 0 j.rev)
        ∗ (bigSep Finset.univ fun j : Fin 3 => dutyTok EX (recvCell (hop j c) j) 0 0) ∗ bigSep Finset.univ fun j : Fin 3 => dutyTok EX (sendCell c j) 0 0) := by
  have hb (i : Fin 3) := bigSep_univ_equiv (hopEquiv i) (fun c : Dev nD => (dutyTok EX (barCell c) 0 i.rev : sProp 𝕄))
  have hv (j : Fin 3) := bigSep_univ_equiv (hopEquiv j) (fun c : Dev nD => (dutyTok EX (recvCell c j) 0 0 : sProp 𝕄))
  unfold toks
  simp only [Ring.bigSep_fin3, bigSep_sep']
  iintro ⟨⟨B0, B1, B2⟩, ⟨V0, V1, V2⟩, HS⟩
  isplitl [B0 B1 B2]
  · isplitl [B2]; · iapply (Entails.of_eq (hb 0)); iexact B2
    isplitl [B1]; · iapply (Entails.of_eq (hb 1)); iexact B1
    iapply (Entails.of_eq (hb 2)); iexact B0
  isplitl [V0 V1 V2]
  · isplitl [V0]; · iapply (Entails.of_eq (hv 0)); iexact V0
    isplitl [V1]; · iapply (Entails.of_eq (hv 1)); iexact V1
    iapply (Entails.of_eq (hv 2)); iexact V2
  iexact HS

/-- A fact that may be used again and again goes to every member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' invariants become shared facts, and the tokens go to the devices that pay with them. -/
theorem regroup :
    (bigSep Finset.univ fun c : Dev nD => iprop((bigSep Finset.univ fun k => iprop(∃ κ : ℕ, cellInv EX (Rd m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  rw [bigSep_sep', bigSep_sep', ← bigSep_univ_prod (fun ck : Dev nD × CIx => iprop(∃ κ : ℕ, cellInv EX (Rd m ρ) κ (kcell ck))),
    bigSep_congr (s := Finset.univ) (fun (c : Dev nD) _ => bigSep_sep' Finset.univ (fun k : CIx => (atPos EX (kcell (c, k)) 0 ∅ 0 : sProp 𝕄)) (fun k => reached EX (kcell (c, k)) 0)),
    bigSep_sep', ← bigSep_univ_prod (fun ck : Dev nD × CIx => (reached EX (kcell ck) 0 : sProp 𝕄))]
  iintro ⟨HI, ⟨Hat, #HR⟩, Htok⟩
  ihave HK := (BI.bigSep_exists_pi Finset.univ (fun (ck : Dev nD × CIx) (κ : ℕ) => (cellInv EX (Rd m ρ) κ (kcell ck) : sProp 𝕄))) $$ HI
  icases HK with ⟨%K, #HI⟩
  ihave Htk := (toks_around (F := F)) $$ Htok
  iapply (bigSep_beside (R := records m ρ K) (Φ := fun c => linear c) fun c _ => show iprop(records m ρ K ∗ linear c) ⊢ G' m ρ c by
    unfold G'; iintro H; iexists K; iexact H)
  isplitr
  · unfold records; isplitl; · iexact HI
    iexact HR
  unfold linear
  iapply (Entails.of_eq (bigSep_sep' Finset.univ (fun c : Dev nD => bigSep Finset.univ fun k : CIx => (atPos EX (kcell (c, k)) 0 ∅ 0 : sProp 𝕄)) _).symm)
  isplitl [Hat]; · iexact Hat
  iexact Htk

/-- The step of all the devices together, from every semaphore at zero. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a tally at one cell counts at another. -/
theorem tally_cell (a c : Dev nD) (k k' : CIx) (n : ℕ) :
    (tallyAt (kcell (a, k)) () n : CellTallies nD τ sig Unit) (kcell (c, k')) () = if a = c ∧ k = k' then n else 0 := by
  rw [tallyAt_apply]
  by_cases h : a = c ∧ k = k'
  · rw [if_pos h, if_pos ⟨by rw [h.1, h.2], rfl⟩]
  · rw [if_neg h, if_neg fun h' => h (by have e := Prod.mk.inj (kcell_injective h'.1); exact ⟨e.1.symm, e.2.symm⟩)]

/-- What device `d` owes at launch to each cell of device `c`. -/
theorem owed_cell (d c : Dev nD) (k : CIx) : O₀ d (kcell (c, k)) () =
    (if hop 2 d = c ∧ some (true, 2) = k then N else 0) + (if hop 0 d = c ∧ some (true, 0) = k then N else 0)
      + (if hop 1 d = c ∧ some (true, 1) = k then N else 0) + (if hop 2 d = c ∧ none = k then 1 else 0)
      + (if hop 1 d = c ∧ none = k then 1 else 0) + (if hop 0 d = c ∧ none = k then 1 else 0) := by
  unfold O₀ O₁
  simp only [Pi.add_apply, Finsupp.add_apply]
  rw [tally_cell, tally_cell, tally_cell, tally_cell, tally_cell, tally_cell]

/-- Exactly one device has `c` at a given distance. -/
theorem sum_hop (j : Fin 3) (c : Dev nD) (n : ℕ) : (∑ d : Dev nD, if hop j d = c then n else 0) = n := by
  simp only [hop_eq_iff]
  rw [Finset.sum_ite_eq' Finset.univ (hop j.rev c) fun _ => n, if_pos (Finset.mem_univ _)]

/-- At launch three units are owed to each barrier cell. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_cell d c none]
  simp only [reduceCtorEq, and_false, and_true, if_false, Nat.zero_add, Finset.sum_add_distrib, sum_hop]

/-- At launch one block's credit is owed to each receive cell. -/
theorem launch_recv (c : Dev nD) (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_cell d c (some (true, j))]
  refine (Finset.sum_congr rfl fun d _ => ?_).trans (sum_hop j c N)
  fin_cases j <;> simp

/-- The launch's credit covers the credits that the body waits with. -/
theorem creds (c : Dev nD) : (Pipeline.launchCred O₀ c : sProp 𝕄) ⊢ credits c := by
  have hsub : (Pipeline.launchCred O₀ c : sProp 𝕄)
      ⊢ bigSep Finset.univ fun k : CIx => cred (tallyOn (kcell (c, k)) (launchCredit (Pipeline.owing O₀) 0 (kcell (c, k)))) := by
    unfold Pipeline.launchCred
    have h := bigSep_subset (Finset.subset_univ (Finset.univ.map ⟨csem, csem_injective⟩))
      (Φ := fun sm : SemLoc sig => (cred (tallyOn ((c : Thread nD τ), sm) (launchCredit (Pipeline.owing O₀) 0 ((c : Thread nD τ), sm))) : sProp 𝕄))
    rw [bigSep_map] at h
    exact h
  refine hsub.trans ?_
  rw [bigSep_cells]
  unfold credits
  rw [Ring.bigSep_fin3, launch_bar, launch_recv, launch_recv, launch_recv]
  iintro ⟨HB, -, -, -, H0, H1, H2⟩
  isplitl [HB]; · iexact HB
  isplitl [H0]; · iexact H0
  isplitl [H1] <;> iassumption

/-! ## The run -/

/-- The argument that the kernel does not read. -/
abbrev rest (c : Dev nD) : sProp 𝕄 := Pipeline.unscopedRestP Pipeline.Prefetch.none cfg0.spec c (fun b => m ((c : Thread nD τ).loc b))

/-- What the launch gives a device is what its body starts with, besides the argument that is not read. -/
theorem start_intro (c : Dev nD) :
    iprop(rest m c ∗ levAts L lv ∗ Pipeline.launchCred O₀ c ∗ prngReg c (ρ c) ∗ G' m ρ c) ⊢ |={Set.univ}=> iprop(start m ρ c ∗ rest m c) := by
  iintro ⟨Hrest, Hlev, Hcr, -, HG⟩
  ihave Hc := (creds (F := F) c) $$ Hcr
  imodintro
  unfold start G'
  isplitr [Hrest]
  · isplitl [HG]; · iexact HG
    isplitl [Hc]; · iexact Hc
    iexact Hlev
  · iexact Hrest

/-- With the scratch buffers that is what the pipeline starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- What the pipeline ends with gives back every semaphore at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hz := (Entails.of_eq (sems0_cells (F := F) c)) $$ Hz
  icases Hz with ⟨Hu, Ho⟩
  isplitl [Hu]; · iexact Hu
  isplitl [Ho] <;> iassumption

/-- The pipeline's own waits are allowed, whatever the device still owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the run leaves in the array of window `w` of device `c`. -/
def finalA (c : Dev nD) (w : Fin cfg0.W) : Buf (Elt F) ((cfg0.win w).arr.view.loc (c : Thread nD τ)) := (dats m ρ 0 c).arrAt w cfg0.N

/-- The windows' arrays end at `finalA`, the argument that is not read ends unchanged, every semaphore ends at zero. -/
def RunPost : PUnit × MemSt nD τ sig (Elt F) → Prop := fun r =>
  (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1))
    ∧ r.2.sem = fun _ => 0

set_option maxRecDepth 8000 in
/-- At any float values and from any memory with every semaphore at zero, the four devices' program terminates, and every final
    state is as `RunPost` says. -/
theorem run_main : θ_run defs (onTc (τ := τ) (main (F := F))) (s₀ m ρ) (RunPost m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := rest m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨Hu, Hrest, HSI⟩
      imod (Pipeline.unscopedSems0_read (X := unscopedSems0 c) (c := c) fupd_intro s') $$ [Hu HSI] with ⟨%h, HSI⟩
      · isplitl [Hu] <;> iassumption
      unfold rest Pipeline.unscopedRestP
      ihave H := (pointsTo_read_all (Pipeline.restRefsP sig Pipeline.Prefetch.none cfg0.spec) (fun b => (c.tc : Thread nD τ).loc b) (fun b => m ((c : Thread nD τ).loc b)) s') $$ [Hrest HSI]
      · isplitl [Hrest] <;> iassumption
      icases H with ⟨%h', HSI⟩
      imodintro
      isplitr; · ipureintro; exact ⟨h' main_arg1 (by decide), h⟩
      iexact HSI)
    (hQ := fun _ h hs => ⟨fun c => ⟨(h c).1, (h c).2.2.1⟩, sem_eq_zero hs fun c => (h c).2.2.2⟩)

/-- An argument's array ends unchanged. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

end Cert.MoeProof

end
-- ==== Proof.Frames.lean ====
/-
# What the three programs leave unchanged

The frame claims: each program terminates, its argument arrays end as they started, and every semaphore ends at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.MoeProof

open Idealize.ShloMosaic Idealize.SL.Sem

/-- The three argument windows and the unread argument end as they started. -/
theorem args_kept {F : FTy → Type} [FloatOps F] {m : (ℓ : Loc KernelIdeal.nD KernelIdeal.τ KernelIdeal.sig) → Buf (Elt F) ℓ}
    {ρ : Dev KernelIdeal.nD → PrngReg} {r : PUnit × MemSt KernelIdeal.nD KernelIdeal.τ KernelIdeal.sig (Elt F)}
    (h : RunPost m ρ r) (c : Dev KernelIdeal.nD) :
    r.2.mem ((c.tc : Thread KernelIdeal.nD KernelIdeal.τ).loc KernelIdeal.main_arg0) = m ((c.tc : Thread _ _).loc KernelIdeal.main_arg0)
      ∧ r.2.mem ((c.tc : Thread KernelIdeal.nD KernelIdeal.τ).loc KernelIdeal.main_arg1) = m ((c.tc : Thread _ _).loc KernelIdeal.main_arg1)
      ∧ r.2.mem ((c.tc : Thread KernelIdeal.nD KernelIdeal.τ).loc KernelIdeal.main_arg2) = m ((c.tc : Thread _ _).loc KernelIdeal.main_arg2)
      ∧ r.2.mem ((c.tc : Thread KernelIdeal.nD KernelIdeal.τ).loc KernelIdeal.main_arg3) = m ((c.tc : Thread _ _).loc KernelIdeal.main_arg3) :=
  ⟨((h.1 c).1 (0 : Fin 4)).trans (finalA_in m ρ c (0 : Fin 4) rfl), (h.1 c).2,
    ((h.1 c).1 (1 : Fin 4)).trans (finalA_in m ρ c (1 : Fin 4) rfl), ((h.1 c).1 (2 : Fin 4)).trans (finalA_in m ρ c (2 : Fin 4) rfl)⟩

/-- The kernel as printed and the kernel the run is stated of have the same body table. -/
theorem body_same {F : FTy → Type} [FloatOps F] : @Kernel.defs₀ F _ _ = @KernelIdeal.defs₀ F _ _ := by
  unfold Kernel.defs₀ KernelIdeal.defs₀
  refine congrArg (Defs.onTc (nD := KernelIdeal.nD) (τ := KernelIdeal.τ) (sig := KernelIdeal.sig) (Λ := KernelIdeal.Λ₀)) ?_
  funext l a
  match l, a with
  | ⟨0, _⟩, (t, s) => rfl

/-- So the two have the same definitions. -/
theorem defs_same {F : FTy → Type} [FloatOps F] : @Kernel.defs F _ _ = @KernelIdeal.defs F _ _ :=
  congrArg (Pipeline.defs (KernelIdeal.pcfgs (F := F))) body_same

/-- So the kernel as printed has the same run. -/
theorem run_kernel {F : FTy → Type} [FloatOps F] (m : (ℓ : Loc Kernel.nD Kernel.τ Kernel.sig) → Buf (Elt F) ℓ) (ρ : Dev Kernel.nD → PrngReg) :
    θ_run (Kernel.defs (F := F)) (onTc (τ := Kernel.τ) (Kernel.main (F := F))) ⟨m, fun _ => 0, ρ⟩ (RunPost m ρ) := by
  rw [defs_same]
  exact run_main m ρ

/-- The kernel on bit patterns. -/
theorem frame_kernel : Cert.quiescent_Kernel (hKernel := Cert.Kernel.Gen.facts) := fun m ρ _ =>
  (θ_run Cert.Kernel.defs _ _).mono (fun _ h => ⟨args_kept h, h.2⟩) (run_kernel (F := Bits) m ρ)

/-- The kernel on extended reals. -/
theorem frame_ideal : Cert.quiescent_KernelIdeal (hKernelIdeal := Cert.KernelIdeal.Gen.facts) := fun m ρ _ =>
  (θ_run Cert.KernelIdeal.defs _ _).mono (fun _ h => ⟨args_kept h, h.2⟩) (run_main (F := Ideal) m ρ)

/-- The reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

end Cert.MoeProof

end
-- ==== Proof.Count.lean ====
/-
# Who is served

The layer as a function of the tokens, the route indices and the weights, and the two ways in which the programs count the tokens
sent to an expert: a product with a triangular matrix of zeros and ones, and a running sum of 32-bit words.
-/
module

public import Idealize.ShloMosaic.Lib.Pointwise
public import Idealize.ShloMosaic.Lib.Routing.OpsOne

@[expose] public section

noncomputable section

namespace Cert.MoeProof

open Idealize.ShloMosaic

/-- The expert of each token, the rows of `x`, and the weights of the eight experts. -/
abbrev Route : Type := (⟨2, ![256, 1]⟩ : Shape).Idx → BitVec 32
abbrev Tokens : Type := (⟨2, ![256, 128]⟩ : Shape).Idx → EReal
abbrev Weights : Type := (⟨3, ![8, 128, 256]⟩ : Shape).Idx → EReal

/-- How many of the tokens up to and including `i` were sent to expert `e`. -/
def upTo (r : Route) (e : BitVec 32) (i : Fin 256) : ℕ := (Finset.univ.filter fun j : Fin 256 => j ≤ i ∧ r (ix2 j 0) = e).card

/-- Token `i` was sent to expert `e` and is one of the first 25 sent there. -/
def served (r : Route) (e : BitVec 32) (i : Fin 256) : Prop := r (ix2 i 0) = e ∧ upTo r e i ≤ 25

/-- Whether a token is served can be decided. -/
instance (r : Route) (e : BitVec 32) (i : Fin 256) : Decidable (served r e i) := by unfold served; infer_instance

/-- Token `i` times the weights of expert `e`, at column `h`. -/
def prodAt (x : Tokens) (W : Weights) (e : Fin 8) (i h : Fin 256) : EReal := ∑ k : Fin 128, x (ix2 i k) * W (ix3 e k h)

/-- The part of expert `e` in the layer's result. -/
def part (x : Tokens) (r : Route) (W : Weights) (e : Fin 8) (i h : Fin 256) : EReal :=
  if served r (BitVec.ofNat 32 e.val) i then prodAt x W e i h else 0

/-- The layer: the parts of all experts, of which at most one is not zero. -/
def layer (x : Tokens) (r : Route) (W : Weights) (i h : Fin 256) : EReal := ∑ e : Fin 8, part x r W e i h

/-- A count of tokens is at most 256. -/
theorem upTo_le (r : Route) (e : BitVec 32) (i : Fin 256) : upTo r e i ≤ 256 :=
  (Finset.card_filter_le _ _).trans (by simp)

/-! ## Bits as numbers -/

/-- A comparison's bit, widened and read as a number, is one or zero. -/
theorem bit_real (p : Prop) [Decidable p] :
    (((BitVec.setWidth 32 (BitVec.ofBool (decide p))).toInt : ℝ) : EReal) = if p then 1 else 0 := by
  by_cases h : p <;> simp [h]

/-- A comparison's bit, widened to a word, is one or zero. -/
theorem bit_word (p : Prop) [Decidable p] : BitVec.setWidth 32 (BitVec.ofBool (decide p)) = if p then 1 else 0 := by
  by_cases h : p <;> simp [h]

/-- Comparing two words for equality gives the bit of their being equal. -/
theorem eq_bit {w : ℕ} (a b : BitVec w) : IntOp.cmpi .eq a b = BitVec.ofBool (decide (a = b)) := by
  unfold IntOp.cmpi
  exact congrArg BitVec.ofBool (by by_cases h : a = b <;> simp [h])

/-- Comparing two row numbers as signed words compares the rows. -/
theorem sle_bit (k i : Fin 256) : IntOp.cmpi .sle (BitVec.ofNat 32 k.val) (BitVec.ofNat 32 i.val) = BitVec.ofBool (decide (k ≤ i)) := by
  unfold IntOp.cmpi
  refine congrArg BitVec.ofBool ?_
  have hk := k.isLt; have hi := i.isLt
  rw [BitVec.sle_eq_decide]
  refine decide_eq_decide.2 ?_
  rw [StableHlo.Predicate.toInt_ofNat_small _ (by omega), StableHlo.Predicate.toInt_ofNat_small _ (by omega), Fin.le_def]
  omega

/-! ## The two counts -/

/-- The row of the triangular matrix times the column of ones and zeros is the count. -/
theorem tri_count (r : Route) (e : BitVec 32) (i : Fin 256) :
    (∑ k : Fin 256, (if k ≤ i then (1 : EReal) else 0) * (if r (ix2 k 0) = e then 1 else 0)) = (upTo r e i : EReal) := by
  have h : ∀ k : Fin 256, (if k ≤ i then (1 : EReal) else 0) * (if r (ix2 k 0) = e then 1 else 0) = if k ≤ i ∧ r (ix2 k 0) = e then 1 else 0 := fun k => by
    by_cases h1 : k ≤ i <;> by_cases h2 : r (ix2 k 0) = e <;> simp [h1, h2]
  rw [Finset.sum_congr rfl fun k _ => h k, Finset.sum_boole]
  rfl

/-- The running sum of words is the count, as a word. -/
theorem word_count (r : Route) (e : BitVec 32) (i : Fin 256) :
    (∑ k : Fin 256, if k ≤ i then (if r (ix2 k 0) = e then (1 : BitVec 32) else 0) else 0) = BitVec.ofNat 32 (upTo r e i) := by
  have h : ∀ k : Fin 256, (if k ≤ i then (if r (ix2 k 0) = e then (1 : BitVec 32) else 0) else 0) = if k ≤ i ∧ r (ix2 k 0) = e then 1 else 0 := fun k => by
    by_cases h1 : k ≤ i <;> by_cases h2 : r (ix2 k 0) = e <;> simp [h1, h2]
  rw [Finset.sum_congr rfl fun k _ => h k, Finset.sum_boole]
  exact BitVec.natCast_eq_ofNat _ _

/-- The literal that the kernel compares the count with is 25. -/
theorem lit_25 : Ideal.ofBits .f32 0x41C80000#32 = ((25 : ℝ) : EReal) := by
  simp [Ideal.ofBits, Ideal.ieee, -EReal.coe_mul]; norm_num

/-- Comparing a count with the kernel's literal compares it with 25. -/
theorem count_le_25 (n : ℕ) : ((n : EReal) ≤ Ideal.ofBits .f32 0x41C80000#32) ↔ n ≤ 25 := by
  rw [lit_25, ← EReal.coe_natCast, EReal.coe_le_coe_iff]
  exact_mod_cast Iff.rfl

/-- Of a token that was sent to the expert, the count before it is below 25 exactly when the count with it is at most 25. -/
theorem before_lt (n : ℕ) (h1 : 1 ≤ n) (h2 : n ≤ 256) :
    IntOp.cmpi .slt (BitVec.ofNat 32 n - 1#32) 25#32 = BitVec.ofBool (decide (n ≤ 25)) := by
  unfold IntOp.cmpi
  refine congrArg BitVec.ofBool ?_
  rw [show BitVec.ofNat 32 n - 1#32 = BitVec.ofNat 32 (n - 1) from by
    apply BitVec.eq_of_toNat_eq; simp [BitVec.toNat_sub]; omega]
  rw [BitVec.slt_eq_decide]
  refine decide_eq_decide.2 ?_
  rw [StableHlo.Predicate.toInt_ofNat_small _ (by omega), show (25#32 : BitVec 32).toInt = 25 from rfl]
  omega

/-- A token that was sent to the expert counts itself. -/
theorem upTo_pos (r : Route) (e : BitVec 32) (i : Fin 256) (h : r (ix2 i 0) = e) : 1 ≤ upTo r e i :=
  Finset.card_pos.2 ⟨i, Finset.mem_filter.2 ⟨Finset.mem_univ _, le_refl i, h⟩⟩

end Cert.MoeProof

end
-- ==== Proof.RefValue.lean ====
/-
# What the reference computes

The reference's result, entry by entry, is the layer.
-/
module

public import proofs.«01_k».proof.Proof.Count
public import proofs.«01_k».proof.Proof.Gen.ReferenceIdeal.Run
public import Idealize.ShloMosaic.Lib.Pointwise.IndexBridge

@[expose] public section

noncomputable section

namespace Cert.MoeProof.Ref

open Idealize.ShloMosaic Cert.ReferenceIdeal
open Facts₀ Facts

/-! ## The pieces, as the reference prints them -/

/-- Which token goes to which expert. -/
def sentW (r : IVec S256x1 32) : IVec S256x8 1 :=
  cmpi .eq (broadcastInDim S256x8 ![0, 1] bcast_S256x1_S256x8_0_1 r) (broadcastInDim S256x8 ![0, 1] bcast_S1x8_S256x8_0_1 (broadcastInDim S1x8 ![1] bcast_S8_S1x8_1 (iotaInDim S8 32 0)))

/-- The running count of the tokens sent to each expert. -/
def runW (r : IVec S256x1 32) : IVec S256x8 32 :=
  Host.reduceWindow IntOp.addi ![256, 1] ![1, 1] ![255, 0] ![0, 0] (extui 32 (sentW r) natLt_1_32) (broadcastInDim S_ ![] bcast_S_S_ (constantI S_ 32 0#32)) reduceWindows_S256x8_S256x8_w256s1p255_0_w1s1p0_0 h_S_

/-- Which token is served by which expert. -/
def servedW (r : IVec S256x1 32) : IVec S256x8 1 :=
  andi (sentW r) (cmpi .slt (subi (runW r) (extui 32 (sentW r) natLt_1_32)) (broadcastInDim S256x8 ![] bcast_S_S256x8 (constantI S_ 32 25#32)))

/-- One expert's turn: its product where it serves, what was there before elsewhere. -/
def turn (x : FVec Ideal S256x128 .f32) (r : IVec S256x1 32) (W : FVec Ideal S8x128x256 .f32) (e : ℕ)
    (h1 : S256x8.Slices ![0, e] S256x1) (h2 : S8x128x256.Slices ![e, 0, 0] S1x128x256) (prev : FVec Ideal S256x256 .f32) : FVec Ideal S256x256 .f32 :=
  select (broadcastInDim S256x256 ![0, 1] bcast_S256x1_S256x256_0_1 (extractStridedSlice S256x1 ![0, e] (servedW r) h1))
    (Host.dotGeneral dot_S256x128_S128x256_S256x256_1_0_0_1_n_n none x (shapeCast _ (extractStridedSlice S1x128x256 ![e, 0, 0] W h2) shapeCasts_S1x128x256_S128x256)) prev

/-! ## The pieces at an entry -/

/-- A token is marked as sent to the expert that its route index names. -/
theorem sentW_apply (r : IVec S256x1 32) (i : Fin 256) (e : Fin 8) :
    sentW r (ix2 i e) = BitVec.ofBool (decide (r (ix2 i 0) = BitVec.ofNat 32 e.val)) := by
  pointwise [sentW, eq_bit]

/-- The running sum is the number of tokens sent to the expert so far. -/
theorem runW_apply (r : IVec S256x1 32) (i : Fin 256) (e : Fin 8) : runW r (ix2 i e) = BitVec.ofNat 32 (upTo r (BitVec.ofNat 32 e.val) i) := by
  have h : runW r (ix2 i e) = ∑ k : Fin 256, if k ≤ i then extui 32 (sentW r) natLt_1_32 (ix2 k e) else 0 := by
    simp only [ix2_eq_valueIdx]
    exact Routing.cumsum_rows_sum (by decide) _ _ rfl _ _ i e
  rw [h, ← word_count]
  refine Finset.sum_congr rfl fun k _ => ?_
  rw [show extui 32 (sentW r) natLt_1_32 (ix2 k e) = (sentW r (ix2 k e)).setWidth 32 from rfl, sentW_apply, bit_word]

/-- A token is marked as served exactly when it is served. -/
theorem servedW_apply (r : IVec S256x1 32) (i : Fin 256) (e : Fin 8) :
    servedW r (ix2 i e) = BitVec.ofBool (decide (served r (BitVec.ofNat 32 e.val) i)) := by
  show IntOp.andi (sentW r (ix2 i e)) (IntOp.cmpi .slt (IntOp.subi (runW r (ix2 i e)) ((sentW r (ix2 i e)).setWidth 32)) 25#32) = _
  rw [sentW_apply, runW_apply]
  by_cases h : r (ix2 i 0) = BitVec.ofNat 32 e.val
  · have hb := before_lt _ (upTo_pos r _ i h) (upTo_le r _ i)
    rw [bit_word, if_pos h]
    refine (congrArg (IntOp.andi _) hb).trans ?_
    unfold served
    by_cases h' : upTo r (BitVec.ofNat 32 e.val) i ≤ 25 <;> simp [h, h', IntOp.andi]
  · simp [h, served, IntOp.andi]

/-- An expert's turn at an entry. -/
theorem turn_apply (x : FVec Ideal S256x128 .f32) (r : IVec S256x1 32) (W : FVec Ideal S8x128x256 .f32) (e : ℕ) (he : e < 8)
    (h1 : S256x8.Slices ![0, e] S256x1) (h2 : S8x128x256.Slices ![e, 0, 0] S1x128x256) (prev : FVec Ideal S256x256 .f32) (i h : Fin 256) :
    turn x r W e h1 h2 prev (ix2 i h) = if served r (BitVec.ofNat 32 e) i then prodAt x W ⟨e, he⟩ i h else prev (ix2 i h) := by
  have hp : turn x r W e h1 h2 prev (ix2 i h) = Scalar.select (servedW r (ix2 i ⟨e, he⟩)) (prodAt x W ⟨e, he⟩ i h) (prev (ix2 i h)) := by
    pointwise [turn, dot_S256x128_S128x256_S256x256_1_0_0_1_n_n]
    rfl
  rw [hp, servedW_apply]
  by_cases hs : served r (BitVec.ofNat 32 e) i <;> simp [hs, Scalar.select]

/-! ## The turns together -/

/-- The first `n` turns over an array of zeros, at an entry. -/
def turns (c : ℕ → Prop) [DecidablePred c] (d : ℕ → EReal) : ℕ → EReal
  | 0 => 0
  | n + 1 => if c n then d n else turns c d n

/-- When at most one expert serves, the turns add up. -/
theorem turns_sum (c : ℕ → Prop) [DecidablePred c] (d : ℕ → EReal) (n : ℕ) (h : ∀ a < n, ∀ b < n, c a → c b → a = b) :
    turns c d n = ∑ e ∈ Finset.range n, if c e then d e else 0 := by
  induction n with
  | zero => rfl
  | succ n ih =>
    rw [Finset.sum_range_succ, turns]
    by_cases hn : c n
    · rw [if_pos hn, if_pos hn, Finset.sum_eq_zero, zero_add]
      intro e he
      have he' := Finset.mem_range.1 he
      rw [if_neg fun hc => (Nat.ne_of_lt he') (h e (by omega) n (by omega) hc hn)]
    · rw [if_neg hn, if_neg hn, add_zero]
      exact ih fun a ha b hb => h a (by omega) b (by omega)

/-- At most one expert serves a token. -/
theorem served_unique (r : Route) (i : Fin 256) (a b : Fin 8) (ha : served r (BitVec.ofNat 32 a.val) i) (hb : served r (BitVec.ofNat 32 b.val) i) :
    a = b := by
  have h := congrArg BitVec.toNat (ha.1.symm.trans hb.1)
  have := a.isLt; have := b.isLt
  simp only [BitVec.toNat_ofNat] at h
  exact Fin.ext (by omega)

/-- The reference's result at an entry. -/
theorem result_apply (m : (ℓ : Loc nD τ sig) → Buf (Elt Ideal) ℓ) (c : Dev nD) (i h : Fin 256) :
    Value.res_main_v51 m c (ix2 i h) = layer (m ((c.tc : Thread nD τ).loc main_arg0)) (m ((c.tc : Thread nD τ).loc main_arg2)) (m ((c.tc : Thread nD τ).loc main_arg3)) i h := by
  generalize hx : m ((c.tc : Thread nD τ).loc main_arg0) = x
  generalize hr : m ((c.tc : Thread nD τ).loc main_arg2) = r
  generalize hW : m ((c.tc : Thread nD τ).loc main_arg3) = W
  have hres : Value.res_main_v51 m c
      = turn x r W 7 slices_S256x8_S256x1_0_7 slices_S8x128x256_S1x128x256_7_0_0 (turn x r W 6 slices_S256x8_S256x1_0_6 slices_S8x128x256_S1x128x256_6_0_0
        (turn x r W 5 slices_S256x8_S256x1_0_5 slices_S8x128x256_S1x128x256_5_0_0 (turn x r W 4 slices_S256x8_S256x1_0_4 slices_S8x128x256_S1x128x256_4_0_0
        (turn x r W 3 slices_S256x8_S256x1_0_3 slices_S8x128x256_S1x128x256_3_0_0 (turn x r W 2 slices_S256x8_S256x1_0_2 slices_S8x128x256_S1x128x256_2_0_0
        (turn x r W 1 slices_S256x8_S256x1_0_1 slices_S8x128x256_S1x128x256_1_0_0 (turn x r W 0 slices_S256x8_S256x1_0_0 slices_S8x128x256_S1x128x256_0_0_0
          (broadcastInDim S256x256 ![] bcast_S_S256x256 (constant S_ .f32 0x00000000#32))))))))) := by
    unfold Value.res_main_v51
    rw [hx, hr, hW]
    rfl
  have hzero : broadcastInDim S256x256 ![] bcast_S_S256x256 (constant (F := Ideal) S_ .f32 0x00000000#32) (ix2 i h) = 0 := by pointwise
  rw [hres]
  rw [turn_apply x r W 7 (by decide), turn_apply x r W 6 (by decide), turn_apply x r W 5 (by decide), turn_apply x r W 4 (by decide),
    turn_apply x r W 3 (by decide), turn_apply x r W 2 (by decide), turn_apply x r W 1 (by decide), turn_apply x r W 0 (by decide), hzero]
  have ht := turns_sum (fun e => ∃ he : e < 8, served r (BitVec.ofNat 32 e) i) (fun e => if he : e < 8 then prodAt x W ⟨e, he⟩ i h else 0) 8
    (fun a ha b hb ⟨_, h1⟩ ⟨_, h2⟩ => Fin.mk.inj (served_unique r i ⟨a, ha⟩ ⟨b, hb⟩ h1 h2))
  rw [Finset.sum_range] at ht
  refine Eq.trans ?_ (ht.trans ?_)
  · simp [turns]
  · refine Finset.sum_congr rfl fun e _ => ?_
    simp [part, e.isLt]

end Cert.MoeProof.Ref

end
-- ==== Proof.KerValue.lean ====
/-
# What the kernel computes

Every device's result, entry by entry, over the exact numbers: the sum over the four devices of the two masked products each
of them contributes.
-/
module

public import proofs.«01_k».proof.Proof.Mesh
public import proofs.«01_k».proof.Proof.Launch
public import proofs.«01_k».proof.Proof.Count
public import Idealize.ShloMosaic.Lib.Pointwise.IndexBridge
public import Idealize.ShloMosaic.Lib.ValueLayout

@[expose] public section

noncomputable section

namespace Cert.MoeProof

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## The arguments -/

/-- The tokens, the route indices and the two experts' weights as device `c` is launched with them. -/
abbrev tok (c : Dev nD) : Tokens := m ((c : Thread nD τ).loc main_arg0)
abbrev rte (c : Dev nD) : Route := m ((c : Thread nD τ).loc main_arg2)
abbrev wts (c : Dev nD) : FVec Ideal S2x128x256 .f32 := m ((c : Thread nD τ).loc main_arg3)

/-- The staged tokens, route indices and weights are the whole argument arrays. -/
theorem xstg_eq (c : Dev nD) : xstg m ρ c = tok m c :=
  Memref.read_access_unit_zero (Elt Ideal) main_arg0 (funext fun a => by fin_cases a <;> decide) (fun a => by fin_cases a <;> decide) _
theorem rstg_eq (c : Dev nD) : rstg m ρ c = rte m c :=
  Memref.read_access_unit_zero (Elt Ideal) main_arg2 (funext fun a => by fin_cases a <;> decide) (fun a => by fin_cases a <;> decide) _
theorem wstg_eq (c : Dev nD) : wstg m ρ c = wts m c :=
  Memref.read_access_unit_zero (Elt Ideal) main_arg3 (funext fun a => by fin_cases a <;> decide) (fun a => by fin_cases a <;> decide) _

/-! ## The rows and the experts read -/

/-- Row `q` of block `b`, among all the rows. -/
def rowAt (b : Dev nD) (q : Fin 64) : Fin 256 := ⟨64 * b.val + q.val, by have := b.isLt; have := q.isLt; simp only [nD] at *; omega⟩

/-- The rows of block `b` read of the tokens. -/
theorem xRows_apply (c b : Dev nD) (q : Fin 64) (k : Fin 128) : xRows m ρ c b (ix2 q k) = tok m c (ix2 (rowAt b q) k) := by
  rw [← xstg_eq m ρ c]
  refine congrArg (xstg m ρ c) (funext fun a => Fin.ext ?_)
  refine (LoadRect.idx_apply _ _ a).trans ?_
  fin_cases a <;> simp [rowAt, ix2, Rect.unit]

/-- The rows of block `b` read of column `e` of the mask. -/
theorem aRows_apply (c b : Dev nD) (e : Fin 2) (q : Fin 64) : aRows m ρ c b e (ix2 q 0) = maskAt m ρ c (ix2 (rowAt b q) e) := by
  refine congrArg (maskAt m ρ c) (funext fun a => Fin.ext ?_)
  refine (LoadRect.idx_apply _ _ a).trans ?_
  fin_cases a <;> simp [rowAt, ix2, Rect.unit]

/-- The weights read of the device's expert `e`. -/
theorem wExp_apply (c : Dev nD) (e : Fin 2) (k : Fin 128) (h : Fin 256) : wExp m ρ c e (ix3 0 k h) = wts m c (ix3 e k h) := by
  rw [← wstg_eq m ρ c]
  refine congrArg (wstg m ρ c) (funext fun a => Fin.ext ?_)
  refine (LoadRect.idx_apply _ _ a).trans ?_
  fin_cases a <;> simp [ix3, Rect.unit]

/-- A received block, as a slot of the receive buffer, has the block's entries. -/
theorem lift3_apply (v : FVec Ideal S64x256 .f32) (q : Fin 64) (h : Fin 256) : lift3 v (ix3 0 q h) = v (ix2 q h) := by
  refine congrArg v ((Equiv.symm_apply_eq _).2 ?_)
  rw [ix2_eq_valueIdx, ix3_eq_valueIdx]
  exact (ValueIdx.reshapeEquiv_ix2_1ab _ q h).symm

/-! ## The mask -/

/-- The number of expert `e` of device `c`, among the eight. -/
def expert (c : Dev nD) (e : Fin 2) : Fin 8 := ⟨2 * c.val + e.val, by have := c.isLt; have := e.isLt; simp only [nD] at *; omega⟩

/-- The kernel's words for its two experts are their numbers among the eight. -/
theorem expert_word0 (c : Dev nD) : Scalar.muli 2#32 (posW c) = BitVec.ofNat 32 (expert c 0).val := by revert c; decide +kernel
theorem expert_word1 (c : Dev nD) : Scalar.addi (Scalar.muli 2#32 (posW c)) 1#32 = BitVec.ofNat 32 (expert c 1).val := by revert c; decide +kernel

/-- A comparison's bit as the float that the kernel makes of it. -/
theorem bit_float (p : Prop) [Decidable p] : (FloatOps.sitofp .f32 ((BitVec.ofBool (decide p)).setWidth 32) : Ideal .f32) = if p then 1 else 0 := bit_real p

/-- What the mask holds, given how its two tests come out. -/
theorem mask_step (r : Route) (e : BitVec 32) (i : Fin 256) :
    (FloatOps.sitofp .f32 ((BitVec.ofBool (decide (r (ix2 i 0) = e))).setWidth 32) : Ideal .f32)
      * FloatOps.sitofp .f32 ((BitVec.ofBool (decide (∑ k : Fin 256, (FloatOps.sitofp .f32 ((BitVec.ofBool (decide (k ≤ i))).setWidth 32) : Ideal .f32)
          * FloatOps.sitofp .f32 ((BitVec.ofBool (decide (r (ix2 k 0) = e))).setWidth 32) ≤ Ideal.ofBits .f32 1103626240#32))).setWidth 32)
      = if served r e i then 1 else 0 := by
  simp only [bit_float]
  simp only [tri_count, count_le_25]
  by_cases h1 : r (ix2 i 0) = e <;> by_cases h2 : upTo r e i ≤ 25 <;> simp [served, h1, h2]

/-- The mask is one where the device's expert serves the token, zero elsewhere. -/
theorem mask_apply (c : Dev nD) (i : Fin 256) (e : Fin 2) :
    maskAt m ρ c (ix2 i e) = if served (rte m c) (BitVec.ofNat 32 (expert c e).val) i then 1 else 0 := by
  unfold maskAt
  rw [rstg_eq]
  revert e
  refine Fin.forall_fin_two.2 ⟨?_, ?_⟩
  · rw [← expert_word0]
    refine Eq.trans ?_ (mask_step (rte m c) _ i)
    pointwise [k0_pay1, dot_S256x256_S256x2_S256x2_1_0_0_1_n_n, Ideal.cmp, eq_bit, sle_bit]
  · rw [← expert_word1]
    refine Eq.trans ?_ (mask_step (rte m c) _ i)
    pointwise [k0_pay1, dot_S256x256_S256x2_S256x2_1_0_0_1_n_n, Ideal.cmp, eq_bit, sle_bit]

/-! ## The contributions -/

/-- What device `p` adds at token `i` and column `h`. -/
def term (p : Dev nD) (i h : Fin 256) : EReal :=
  ∑ e : Fin 2, if served (rte m p) (BitVec.ofNat 32 (expert p e).val) i then ∑ k : Fin 128, tok m p (ix2 i k) * wts m p (ix3 e k h) else 0

/-- A masked product is the product or nothing. -/
theorem masked (p : Prop) [Decidable p] (f g : Fin 128 → EReal) :
    (∑ k, (if p then (1 : EReal) else 0) * f k * g k) = if p then ∑ k, f k * g k else 0 := by
  by_cases h : p <;> simp [h]

/-- A device's contribution to a block, at an entry. -/
theorem contrib_apply (c b : Dev nD) (q : Fin 64) (h : Fin 256) : contrib m ρ c b (ix2 q h) = term m c (rowAt b q) h := by
  have hp : contrib m ρ c b (ix2 q h) = ∑ e : Fin 2, ∑ k : Fin 128, aRows m ρ c b e (ix2 q 0) * xRows m ρ c b (ix2 q k) * wExp m ρ c e (ix3 0 k h) := by
    rw [Fin.sum_univ_two]
    unfold contrib
    pointwise [k0_pay4, k0_pay2, k0_pay3, dot_S64x128_S128x256_S64x256_1_0_0_1_n_n]
  rw [hp]
  simp only [aRows_apply, mask_apply, xRows_apply, wExp_apply, masked, term]

/-- A device's result at an entry: its own contribution and the three received, in the order in which they are added. -/
theorem outAt_apply (c : Dev nD) (q : Fin 64) (h : Fin 256) :
    outAt m ρ c (ix2 q h) = term m c (rowAt c q) h + term m (hop (Fin.rev 0) c) (rowAt c q) h
      + term m (hop (Fin.rev 1) c) (rowAt c q) h + term m (hop (Fin.rev 2) c) (rowAt c q) h := by
  have hp : outAt m ρ c (ix2 q h) = contrib m ρ c c (ix2 q h) + contrib m ρ (hop (Fin.rev 0) c) c (ix2 q h)
      + contrib m ρ (hop (Fin.rev 1) c) c (ix2 q h) + contrib m ρ (hop (Fin.rev 2) c) c (ix2 q h) := by
    simp only [← lift3_apply (contrib m ρ (hop _ c) c)]
    unfold outAt contrib
    pointwise [k0_pay8, k0_pay7, k0_pay4, k0_pay2, k0_pay3, dot_S64x128_S128x256_S64x256_1_0_0_1_n_n]
  rw [hp, contrib_apply, contrib_apply, contrib_apply, contrib_apply]

/-- The order in which a device adds the four contributions does not matter. -/
theorem ring_sum (f : Dev nD → EReal) (c : Dev nD) : f c + f (hop (Fin.rev 0) c) + f (hop (Fin.rev 1) c) + f (hop (Fin.rev 2) c) = ∑ p : Fin 4, f p := by
  have h : ∀ c : Fin 4, f c + f (hop (Fin.rev 0) c) + f (hop (Fin.rev 1) c) + f (hop (Fin.rev 2) c) = f 0 + f 1 + f 2 + f 3 := by
    intro c
    fin_cases c
    · show f 0 + f 3 + f 2 + f 1 = _
      abel
    · show f 1 + f 0 + f 3 + f 2 = _
      abel
    · show f 2 + f 1 + f 0 + f 3 = _
      abel
    · show f 3 + f 2 + f 1 + f 0 = _
      abel
  rw [Fin.sum_univ_four]
  exact h c

/-- The result of device `c` at row `q` of its block and column `h`. -/
theorem result_entry (c : Dev nD) (q : Fin 64) (h : Fin 256) : outAt m ρ c (ix2 q h) = ∑ p : Fin 4, term m p (rowAt c q) h :=
  (outAt_apply m ρ c q h).trans (ring_sum (fun p => term m p (rowAt c q) h) c)

/-- The result array ends holding what the body computed. -/
theorem finalA_out (c : Dev nD) : finalA m ρ c (3 : Fin 4) = outAt m ρ c := by
  have hr := Memref.read_access_unit_zero (Elt Ideal) main_v1 (funext fun a => by fin_cases a <;> decide :
    (fun a => (win0_3.index (0 : Fin 1)) a * main_v1.ty.shape.size a) = fun _ => 0) (fun a => by fin_cases a <;> decide) (finalA m ρ c (3 : Fin 4))
  refine hr.symm.trans ?_
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Cert.MoeProof

end
-- ==== Proof.Algebra.lean ====
/-
# The kernel and the reference compute the same layer

The four devices' contributions, two experts each, are the reference's eight experts.
-/
module

public import proofs.«01_k».proof.Defs
public import proofs.«01_k».proof.Proof.Frames
public import proofs.«01_k».proof.Proof.RefValue
public import proofs.«01_k».proof.Proof.KerValue

@[expose] public section

noncomputable section

namespace Cert.MoeProof

open Idealize.ShloMosaic Idealize.SL.Sem

/-- A sum over eight experts is the sum over four devices of their two experts. -/
theorem experts_sum (f : Fin 8 → EReal) : (∑ p : Fin 4, ∑ e : Fin 2, f (expert p e)) = ∑ e : Fin 8, f e := by
  simp only [Fin.sum_univ_four, Fin.sum_univ_two, Fin.sum_univ_eight]
  show f 0 + f 1 + (f 2 + f 3) + (f 4 + f 5) + (f 6 + f 7) = _
  abel

/-- Expert `e` of device `p`, in the whole array of weights. -/
theorem weights_block (W : Weights) (p : Fin 4) (e : Fin 2) (k : Fin 128) (h : Fin 256) :
    Layout.block ⟨3, ![2, 128, 256]⟩ ⟨3, ![8, 128, 256]⟩ 0 4 p W (by decide) (ix3 e k h) = W (ix3 (expert p e) k h) := by
  refine congrArg W (funext fun a => Fin.ext ?_)
  refine (Layout.Tiles.idx_val _ _ _ a).trans ?_
  fin_cases a
  · show p.val * 2 + e.val = 2 * p.val + e.val
    omega
  · rfl
  · rfl

/-- Row `q` of device `c`'s block, in the whole array of results. -/
theorem result_block (v : FVec Ideal KernelIdeal.S256x256 .f32) (c : Fin 4) (q : Fin 64) (h : Fin 256) :
    Layout.block ⟨2, ![64, 256]⟩ ⟨2, ![256, 256]⟩ 0 4 c v (by decide) (ix2 q h) = v (ix2 (rowAt c q) h) := by
  refine congrArg v (funext fun a => Fin.ext ?_)
  refine (Layout.Tiles.idx_val _ _ _ a).trans ?_
  fin_cases a
  · show c.val * 64 + q.val = 64 * c.val + q.val
    omega
  · rfl

/-- An index of a block is a row and a column. -/
theorem pair_index (j : KernelIdeal.S64x256.Idx) : ∃ (q : Fin 64) (l : Fin 256), j = ix2 q l :=
  ⟨j 0, j 1, (ValueIdx.eq_ix2 j).trans (ix2_eq_valueIdx _ _).symm⟩

/-- Devices that hold the same tokens and the same route indices, and each its part of the weights, contribute the layer
    together. -/
theorem terms_layer (m : (ℓ : Loc KernelIdeal.nD KernelIdeal.τ KernelIdeal.sig) → Buf (Elt Ideal) ℓ) (x : Tokens) (r : Route) (W : Weights)
    (hx : ∀ c, tok m c = x) (hr : ∀ c, rte m c = r) (hW : ∀ c : Fin 4, wts m c = Layout.block ⟨3, ![2, 128, 256]⟩ ⟨3, ![8, 128, 256]⟩ 0 4 c W (by decide))
    (i h : Fin 256) : (∑ p : Fin 4, term m p i h) = layer x r W i h := by
  refine Eq.trans ?_ (experts_sum fun e => part x r W e i h)
  refine Finset.sum_congr rfl fun p _ => Finset.sum_congr rfl fun e _ => ?_
  simp only [hx, hr, hW, weights_block, part, prodAt]

/-- From arguments that agree, the kernel on four devices and the reference on one both run, and each device's result is its
    block of the reference's. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨ReferenceIdeal.Value.res_main_v51 m' 0, ?_, ?_⟩
  · refine (θ_run KernelIdeal.defs _ _).mono (fun _ h c => ⟨?_, args_kept h c⟩) (run_main (F := Ideal) m g)
    refine (((h.1 c).1 (3 : Fin 4)).trans (finalA_out m g c)).trans ?_
    funext j
    obtain ⟨q, l, rfl⟩ : ∃ (q : Fin 64) (l : Fin 256), j = ix2 q l := pair_index j
    refine (result_entry m g c q l).trans (Eq.trans ?_ (result_block _ c q l).symm)
    refine (terms_layer m _ _ _ (fun c => (hagree c).1) (fun c => (hagree c).2.2.1) (fun c => (hagree c).2.2.2) _ _).trans ?_
    exact (Ref.result_apply m' 0 (rowAt c q) l).symm
  · exact (θ_run ReferenceIdeal.defs _ _).mono (fun _ h => h 0) (ReferenceIdeal.Value.run m' g')

end Cert.MoeProof

end
-- ==== Proof.lean ====
/-
# The certificate

Each claim is proved in a module under Proof/; this file puts them together.
-/
module

public import proofs.«01_k».proof.Defs
public import proofs.«01_k».proof.Proof.Frames
public import proofs.«01_k».proof.Proof.Algebra
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

/-- Everything that the certificate claims. -/
theorem claim : Cert.Claim := ⟨Cert.Kernel.Gen.facts, Cert.KernelIdeal.Gen.facts, Cert.ReferenceIdeal.Gen.facts,
  Cert.MoeProof.frame_kernel, Cert.MoeProof.frame_ideal, Cert.MoeProof.frame_reference, trivial, Cert.MoeProof.algebraic⟩

end Cert.Proof

end
